-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v302) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x2048 : Shape := ⟨3, ![4, 2048, 2048]⟩
abbrev S2048x2048 : Shape := ⟨2, ![2048, 2048]⟩
abbrev S2048x1 : Shape := ⟨2, ![2048, 1]⟩
abbrev S_ : Shape := ⟨0, ![]⟩
abbrev S4 : Shape := ⟨1, ![4]⟩
abbrev S1 : Shape := ⟨1, ![1]⟩
abbrev S512x2048 : Shape := ⟨2, ![512, 2048]⟩
abbrev S1x512x2048 : Shape := ⟨3, ![1, 512, 2048]⟩
abbrev S1x2048x2048 : Shape := ⟨3, ![1, 2048, 2048]⟩
abbrev S1x2048 : Shape := ⟨2, ![1, 2048]⟩
abbrev S512 : Shape := ⟨1, ![512]⟩
abbrev S512x1 : Shape := ⟨2, ![512, 1]⟩
abbrev S2048 : Shape := ⟨1, ![2048]⟩

abbrev nBuf : Space → Nat
  | .hbm => 2
  | .vmem => 4
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .local _ .vmem, ⟨0, _⟩ => ⟨S2048x2048, .f32⟩
  | .local _ .vmem, ⟨1, _⟩ => ⟨S2048x2048, .f32⟩
  | .local _ .vmem, ⟨2, _⟩ => ⟨S2048x2048, .f32⟩
  | .local _ .vmem, ⟨3, _⟩ => ⟨S2048x1, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c3_i32 : BitVec 32 := 3#32
  let v0 : BitVec 32 := Scalar.remsi arg0 c3_i32
  let c0_i32 : BitVec 32 := 0#32
  let v1 : BitVec 1 := Scalar.cmpi .eq v0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

def k0_off1 (i : grid0.Coords) : Fin 3 → Nat :=
  let arg0 : BitVec 32 := BitVec.ofNat 32 (i 0).val
  let c0_i32_108 : BitVec 32 := 0#32
  let c0_i32_109 : BitVec 32 := 0#32
  ![arg0.toNat, 0, 0]
def k0_off2 (i : grid0.Coords) : Fin 3 → Nat :=
  let arg0 : BitVec 32 := BitVec.ofNat 32 (i 0).val
  let c512_i32_113 : BitVec 32 := 512#32
  let c0_i32_114 : BitVec 32 := 0#32
  ![arg0.toNat, 512, 0]
def k0_off3 (i : grid0.Coords) : Fin 3 → Nat :=
  let arg0 : BitVec 32 := BitVec.ofNat 32 (i 0).val
  let c1024_i32_117 : BitVec 32 := 1024#32
  let c0_i32_118 : BitVec 32 := 0#32
  ![arg0.toNat, 1024, 0]
def k0_off4 (i : grid0.Coords) : Fin 3 → Nat :=
  let arg0 : BitVec 32 := BitVec.ofNat 32 (i 0).val
  let c1536_i32_121 : BitVec 32 := 1536#32
  let c0_i32_122 : BitVec 32 := 0#32
  ![arg0.toNat, 1536, 0]
def k0_cond3 (i : grid0.Coords) : BitVec 1 :=
  let arg0 : BitVec 32 := BitVec.ofNat 32 (i 0).val
  let c1_i32_5 : BitVec 32 := 1#32
  let v13 : BitVec 1 := Scalar.cmpi .sge arg0 c1_i32_5
  let c1_i32_6 : BitVec 32 := 1#32
  let v14 : BitVec 32 := Scalar.addi arg0 c1_i32_6
  let c4_i32 : BitVec 32 := 4#32
  let v15 : BitVec 1 := Scalar.cmpi .slt v14 c4_i32
  let v16 : BitVec 1 := Scalar.andi v13 v15
  let v17 : BitVec 32 := Scalar.extui v16
  let c0_i32_7 : BitVec 32 := 0#32
  let v18 : BitVec 1 := Scalar.cmpi .ne v17 c0_i32_7
  v18

def k0_cond4 (i : grid0.Coords) : BitVec 1 :=
  let arg0 : BitVec 32 := BitVec.ofNat 32 (i 0).val
  let c2_i32_105 : BitVec 32 := 2#32
  let v218 : BitVec 1 := Scalar.cmpi .sge arg0 c2_i32_105
  let v219 : BitVec 32 := Scalar.extui v218
  let c0_i32_106 : BitVec 32 := 0#32
  let v220 : BitVec 1 := Scalar.cmpi .ne v219 c0_i32_106
  v220

def k0_off5 (i : grid0.Coords) : Fin 3 → Nat :=
  let arg0 : BitVec 32 := BitVec.ofNat 32 (i 0).val
  let c2_i32_110 : BitVec 32 := 2#32
  let v224 : BitVec 32 := Scalar.subi arg0 c2_i32_110
  let c0_i32_111 : BitVec 32 := 0#32
  let c0_i32_112 : BitVec 32 := 0#32
  ![v224.toNat, 0, 0]
def k0_off6 (i : grid0.Coords) : Fin 3 → Nat :=
  let arg0 : BitVec 32 := BitVec.ofNat 32 (i 0).val
  let c1_i32_107 : BitVec 32 := 1#32
  let v221 : BitVec 32 := Scalar.addi arg0 c1_i32_107
  let c0_i32_108 : BitVec 32 := 0#32
  let c0_i32_109 : BitVec 32 := 0#32
  ![v221.toNat, 0, 0]
def k0_cond5 (i : grid0.Coords) : BitVec 1 :=
  let arg0 : BitVec 32 := BitVec.ofNat 32 (i 0).val
  let c0_i32_8 : BitVec 32 := 0#32
  let v19 : BitVec 1 := Scalar.cmpi .sgt arg0 c0_i32_8
  let v20 : BitVec 32 := Scalar.extui v19
  let c0_i32_9 : BitVec 32 := 0#32
  let v21 : BitVec 1 := Scalar.cmpi .ne v20 c0_i32_9
  v21

def k0_off7 (i : grid0.Coords) : Fin 3 → Nat :=
  let arg0 : BitVec 32 := BitVec.ofNat 32 (i 0).val
  let c0_i32_105 : BitVec 32 := 0#32
  let c0_i32_106 : BitVec 32 := 0#32
  ![arg0.toNat, 0, 0]
def k0_cond6 (i : grid0.Coords) : BitVec 1 :=
  let arg0 : BitVec 32 := BitVec.ofNat 32 (i 0).val
  let c0_i32_11 : BitVec 32 := 0#32
  let v23 : BitVec 1 := Scalar.cmpi .eq arg0 c0_i32_11
  let v24 : BitVec 32 := Scalar.extui v23
  let c0_i32_12 : BitVec 32 := 0#32
  let v25 : BitVec 1 := Scalar.cmpi .ne v24 c0_i32_12
  v25

def k0_off8 : Fin 2 → Nat :=
  let c0_i32_10 : BitVec 32 := 0#32
  let c512_i32_106 : BitVec 32 := 512#32
  let v219 : BitVec 32 := Scalar.muli c0_i32_10 c512_i32_106
  let c0_i32_107 : BitVec 32 := 0#32
  ![v219.toNat, 0]
def k0_off9 (i : grid0.Coords) : Fin 3 → Nat :=
  let arg0 : BitVec 32 := BitVec.ofNat 32 (i 0).val
  let c0_i32_10 : BitVec 32 := 0#32
  let c512_i32_105 : BitVec 32 := 512#32
  let v218 : BitVec 32 := Scalar.muli c0_i32_10 c512_i32_105
  let c0_i32_108 : BitVec 32 := 0#32
  ![arg0.toNat, v218.toNat, 0]
def k0_off10 (c0_i32_10 : BitVec 32) : Fin 2 → Nat :=
  let c512_i32 : BitVec 32 := 512#32
  let v26 : BitVec 32 := Scalar.muli c0_i32_10 c512_i32
  let v27 : Index := Scalar.indexCast v26
  let c0 : Index := 0#32
  ![v27.toNat, 0]
def k0_off11 (c0_i32_10 : BitVec 32) : Fin 2 → Nat :=
  let c512_i32_17 : BitVec 32 := 512#32
  let v39 : BitVec 32 := Scalar.muli c0_i32_10 c512_i32_17
  let v40 : Index := Scalar.indexCast v39
  let c0_18 : Index := 0#32
  ![v40.toNat, 0]
def k0_cond7 (i : grid0.Coords) : BitVec 1 :=
  let arg0 : BitVec 32 := BitVec.ofNat 32 (i 0).val
  let c0_i32_22 : BitVec 32 := 0#32
  let v51 : BitVec 1 := Scalar.cmpi .eq arg0 c0_i32_22
  let v52 : BitVec 32 := Scalar.extui v51
  let c0_i32_23 : BitVec 32 := 0#32
  let v53 : BitVec 1 := Scalar.cmpi .ne v52 c0_i32_23
  v53

def k0_off12 : Fin 2 → Nat :=
  let c1_i32_21 : BitVec 32 := 1#32
  let c512_i32_106 : BitVec 32 := 512#32
  let v219 : BitVec 32 := Scalar.muli c1_i32_21 c512_i32_106
  let c0_i32_107 : BitVec 32 := 0#32
  ![v219.toNat, 0]
def k0_off13 (i : grid0.Coords) : Fin 3 → Nat :=
  let arg0 : BitVec 32 := BitVec.ofNat 32 (i 0).val
  let c1_i32_21 : BitVec 32 := 1#32
  let c512_i32_105 : BitVec 32 := 512#32
  let v218 : BitVec 32 := Scalar.muli c1_i32_21 c512_i32_105
  let c0_i32_108 : BitVec 32 := 0#32
  ![arg0.toNat, v218.toNat, 0]
def k0_cond8 (i : grid0.Coords) : BitVec 1 :=
  let arg0 : BitVec 32 := BitVec.ofNat 32 (i 0).val
  let c0_i32_35 : BitVec 32 := 0#32
  let v79 : BitVec 1 := Scalar.cmpi .eq arg0 c0_i32_35
  let v80 : BitVec 32 := Scalar.extui v79
  let c0_i32_36 : BitVec 32 := 0#32
  let v81 : BitVec 1 := Scalar.cmpi .ne v80 c0_i32_36
  v81

def k0_off14 : Fin 2 → Nat :=
  let c2_i32_34 : BitVec 32 := 2#32
  let c512_i32_106 : BitVec 32 := 512#32
  let v219 : BitVec 32 := Scalar.muli c2_i32_34 c512_i32_106
  let c0_i32_107 : BitVec 32 := 0#32
  ![v219.toNat, 0]
def k0_off15 (i : grid0.Coords) : Fin 3 → Nat :=
  let arg0 : BitVec 32 := BitVec.ofNat 32 (i 0).val
  let c2_i32_34 : BitVec 32 := 2#32
  let c512_i32_105 : BitVec 32 := 512#32
  let v218 : BitVec 32 := Scalar.muli c2_i32_34 c512_i32_105
  let c0_i32_108 : BitVec 32 := 0#32
  ![arg0.toNat, v218.toNat, 0]
def k0_cond9 (i : grid0.Coords) : BitVec 1 :=
  let arg0 : BitVec 32 := BitVec.ofNat 32 (i 0).val
  let c0_i32_48 : BitVec 32 := 0#32
  let v107 : BitVec 1 := Scalar.cmpi .eq arg0 c0_i32_48
  let v108 : BitVec 32 := Scalar.extui v107
  let c0_i32_49 : BitVec 32 := 0#32
  let v109 : BitVec 1 := Scalar.cmpi .ne v108 c0_i32_49
  v109

def k0_off16 : Fin 2 → Nat :=
  let c3_i32_47 : BitVec 32 := 3#32
  let c512_i32_106 : BitVec 32 := 512#32
  let v219 : BitVec 32 := Scalar.muli c3_i32_47 c512_i32_106
  let c0_i32_107 : BitVec 32 := 0#32
  ![v219.toNat, 0]
def k0_off17 (i : grid0.Coords) : Fin 3 → Nat :=
  let arg0 : BitVec 32 := BitVec.ofNat 32 (i 0).val
  let c3_i32_47 : BitVec 32 := 3#32
  let c512_i32_105 : BitVec 32 := 512#32
  let v218 : BitVec 32 := Scalar.muli c3_i32_47 c512_i32_105
  let c0_i32_108 : BitVec 32 := 0#32
  ![arg0.toNat, v218.toNat, 0]
def k0_cond10 (i : grid0.Coords) : BitVec 1 :=
  let arg0 : BitVec 32 := BitVec.ofNat 32 (i 0).val
  let c0_i32_62 : BitVec 32 := 0#32
  let v137 : BitVec 1 := Scalar.cmpi .eq arg0 c0_i32_62
  let c1_i32_63 : BitVec 32 := 1#32
  let v138 : BitVec 32 := Scalar.addi arg0 c1_i32_63
  let c4_i32_64 : BitVec 32 := 4#32
  let v139 : BitVec 1 := Scalar.cmpi .slt v138 c4_i32_64
  let v140 : BitVec 1 := Scalar.andi v137 v139
  let v141 : BitVec 32 := Scalar.extui v140
  let c0_i32_65 : BitVec 32 := 0#32
  let v142 : BitVec 1 := Scalar.cmpi .ne v141 c0_i32_65
  v142

def k0_cond11 (i : grid0.Coords) : BitVec 1 :=
  let arg0 : BitVec 32 := BitVec.ofNat 32 (i 0).val
  let c2_i32_105 : BitVec 32 := 2#32
  let v218 : BitVec 1 := Scalar.cmpi .sge arg0 c2_i32_105
  let v219 : BitVec 32 := Scalar.extui v218
  let c0_i32_106 : BitVec 32 := 0#32
  let v220 : BitVec 1 := Scalar.cmpi .ne v219 c0_i32_106
  v220

def k0_off18 (i : grid0.Coords) : Fin 3 → Nat :=
  let arg0 : BitVec 32 := BitVec.ofNat 32 (i 0).val
  let c2_i32_110 : BitVec 32 := 2#32
  let v224 : BitVec 32 := Scalar.subi arg0 c2_i32_110
  let c0_i32_111 : BitVec 32 := 0#32
  let c0_i32_112 : BitVec 32 := 0#32
  ![v224.toNat, 0, 0]
def k0_off19 (i : grid0.Coords) : Fin 3 → Nat :=
  let arg0 : BitVec 32 := BitVec.ofNat 32 (i 0).val
  let c1_i32_107 : BitVec 32 := 1#32
  let v221 : BitVec 32 := Scalar.addi arg0 c1_i32_107
  let c0_i32_108 : BitVec 32 := 0#32
  let c0_i32_109 : BitVec 32 := 0#32
  ![v221.toNat, 0, 0]
@[reducible] def k0_t1_loop : Scf.Loop 32 :=
  let c0_i32_66 : BitVec 32 := 0#32
  let c9_i32 : BitVec 32 := 9#32
  let v143 : BitVec 32 := Scalar.addi c0_i32_66 c9_i32
  let c1_i32_67 : BitVec 32 := 1#32
  ⟨c0_i32_66, v143, c1_i32_67⟩
def k0_off20 (c0_i32_105 : BitVec 32) : Fin 2 → Nat :=
  let c512_i32_106 : BitVec 32 := 512#32
  let v218 : BitVec 32 := Scalar.muli c0_i32_105 c512_i32_106
  let v219 : Index := Scalar.indexCast v218
  let c0_107 : Index := 0#32
  ![v219.toNat, 0]
def k0_off21 (c0_i32_105 : BitVec 32) : Fin 2 → Nat :=
  let c512_i32_109 : BitVec 32 := 512#32
  let v225 : BitVec 32 := Scalar.muli c0_i32_105 c512_i32_109
  let v226 : Index := Scalar.indexCast v225
  let c0_110 : Index := 0#32
  ![v226.toNat, 0]
def k0_off22 (i : grid0.Coords) : Fin 3 → Nat :=
  let arg0 : BitVec 32 := BitVec.ofNat 32 (i 0).val
  let c0_i32_101 : BitVec 32 := 0#32
  let c0_i32_102 : BitVec 32 := 0#32
  ![arg0.toNat, 0, 0]
def k0_cond12 (i : grid0.Coords) : BitVec 1 :=
  let arg0 : BitVec 32 := BitVec.ofNat 32 (i 0).val
  let c3_i32_103 : BitVec 32 := 3#32
  let v215 : BitVec 1 := Scalar.cmpi .eq arg0 c3_i32_103
  let v216 : BitVec 32 := Scalar.extui v215
  let c0_i32_104 : BitVec 32 := 0#32
  let v217 : BitVec 1 := Scalar.cmpi .ne v216 c0_i32_104
  v217

def k0_cond13 (i : grid0.Coords) : BitVec 1 :=
  let arg0 : BitVec 32 := BitVec.ofNat 32 (i 0).val
  let c2_i32_105 : BitVec 32 := 2#32
  let v218 : BitVec 1 := Scalar.cmpi .sge arg0 c2_i32_105
  let v219 : BitVec 32 := Scalar.extui v218
  let c0_i32_106 : BitVec 32 := 0#32
  let v220 : BitVec 1 := Scalar.cmpi .ne v219 c0_i32_106
  v220

def k0_off23 (i : grid0.Coords) : Fin 3 → Nat :=
  let arg0 : BitVec 32 := BitVec.ofNat 32 (i 0).val
  let c2_i32_111 : BitVec 32 := 2#32
  let v226 : BitVec 32 := Scalar.subi arg0 c2_i32_111
  let c0_i32_112 : BitVec 32 := 0#32
  let c0_i32_113 : BitVec 32 := 0#32
  ![v226.toNat, 0, 0]
def k0_cond14 (i : grid0.Coords) : BitVec 1 :=
  let arg0 : BitVec 32 := BitVec.ofNat 32 (i 0).val
  let c1_i32_107 : BitVec 32 := 1#32
  let v221 : BitVec 1 := Scalar.cmpi .sge arg0 c1_i32_107
  let v222 : BitVec 32 := Scalar.extui v221
  let c0_i32_108 : BitVec 32 := 0#32
  let v223 : BitVec 1 := Scalar.cmpi .ne v222 c0_i32_108
  v223

def k0_off24 (i : grid0.Coords) : Fin 3 → Nat :=
  let arg0 : BitVec 32 := BitVec.ofNat 32 (i 0).val
  let c1_i32_111 : BitVec 32 := 1#32
  let v226 : BitVec 32 := Scalar.subi arg0 c1_i32_111
  let c0_i32_112 : BitVec 32 := 0#32
  let c0_i32_113 : BitVec 32 := 0#32
  ![v226.toNat, 0, 0]
def k0_off25 (i : grid0.Coords) : Fin 3 → Nat :=
  let arg0 : BitVec 32 := BitVec.ofNat 32 (i 0).val
  let c0_i32_109 : BitVec 32 := 0#32
  let c0_i32_110 : BitVec 32 := 0#32
  ![arg0.toNat, 0, 0]
def k0_cond15 (i : grid0.Coords) : BitVec 1 :=
  let arg0 : BitVec 32 := BitVec.ofNat 32 (i 0).val
  let c3_i32 : BitVec 32 := 3#32
  let v0 : BitVec 32 := Scalar.remsi arg0 c3_i32
  let c1_i32 : BitVec 32 := 1#32
  let v4 : BitVec 1 := Scalar.cmpi .eq v0 c1_i32
  let v5 : BitVec 32 := Scalar.extui v4
  let c0_i32_1 : BitVec 32 := 0#32
  let v6 : BitVec 1 := Scalar.cmpi .ne v5 c0_i32_1
  v6

def k0_cond16 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

def k0_off26 (i : grid0.Coords) : Fin 3 → Nat :=
  let arg0 : BitVec 32 := BitVec.ofNat 32 (i 0).val
  let c0_i32_108 : BitVec 32 := 0#32
  let c0_i32_109 : BitVec 32 := 0#32
  ![arg0.toNat, 0, 0]
def k0_off27 (i : grid0.Coords) : Fin 3 → Nat :=
  let arg0 : BitVec 32 := BitVec.ofNat 32 (i 0).val
  let c512_i32_113 : BitVec 32 := 512#32
  let c0_i32_114 : BitVec 32 := 0#32
  ![arg0.toNat, 512, 0]
def k0_off28 (i : grid0.Coords) : Fin 3 → Nat :=
  let arg0 : BitVec 32 := BitVec.ofNat 32 (i 0).val
  let c1024_i32_117 : BitVec 32 := 1024#32
  let c0_i32_118 : BitVec 32 := 0#32
  ![arg0.toNat, 1024, 0]
def k0_off29 (i : grid0.Coords) : Fin 3 → Nat :=
  let arg0 : BitVec 32 := BitVec.ofNat 32 (i 0).val
  let c1536_i32_121 : BitVec 32 := 1536#32
  let c0_i32_122 : BitVec 32 := 0#32
  ![arg0.toNat, 1536, 0]
def k0_cond17 (i : grid0.Coords) : BitVec 1 :=
  let arg0 : BitVec 32 := BitVec.ofNat 32 (i 0).val
  let c1_i32_5 : BitVec 32 := 1#32
  let v13 : BitVec 1 := Scalar.cmpi .sge arg0 c1_i32_5
  let c1_i32_6 : BitVec 32 := 1#32
  let v14 : BitVec 32 := Scalar.addi arg0 c1_i32_6
  let c4_i32 : BitVec 32 := 4#32
  let v15 : BitVec 1 := Scalar.cmpi .slt v14 c4_i32
  let v16 : BitVec 1 := Scalar.andi v13 v15
  let v17 : BitVec 32 := Scalar.extui v16
  let c0_i32_7 : BitVec 32 := 0#32
  let v18 : BitVec 1 := Scalar.cmpi .ne v17 c0_i32_7
  v18

def k0_cond18 (i : grid0.Coords) : BitVec 1 :=
  let arg0 : BitVec 32 := BitVec.ofNat 32 (i 0).val
  let c2_i32_105 : BitVec 32 := 2#32
  let v218 : BitVec 1 := Scalar.cmpi .sge arg0 c2_i32_105
  let v219 : BitVec 32 := Scalar.extui v218
  let c0_i32_106 : BitVec 32 := 0#32
  let v220 : BitVec 1 := Scalar.cmpi .ne v219 c0_i32_106
  v220

def k0_off30 (i : grid0.Coords) : Fin 3 → Nat :=
  let arg0 : BitVec 32 := BitVec.ofNat 32 (i 0).val
  let c2_i32_110 : BitVec 32 := 2#32
  let v224 : BitVec 32 := Scalar.subi arg0 c2_i32_110
  let c0_i32_111 : BitVec 32 := 0#32
  let c0_i32_112 : BitVec 32 := 0#32
  ![v224.toNat, 0, 0]
def k0_off31 (i : grid0.Coords) : Fin 3 → Nat :=
  let arg0 : BitVec 32 := BitVec.ofNat 32 (i 0).val
  let c1_i32_107 : BitVec 32 := 1#32
  let v221 : BitVec 32 := Scalar.addi arg0 c1_i32_107
  let c0_i32_108 : BitVec 32 := 0#32
  let c0_i32_109 : BitVec 32 := 0#32
  ![v221.toNat, 0, 0]
def k0_cond19 (i : grid0.Coords) : BitVec 1 :=
  let arg0 : BitVec 32 := BitVec.ofNat 32 (i 0).val
  let c0_i32_8 : BitVec 32 := 0#32
  let v19 : BitVec 1 := Scalar.cmpi .sgt arg0 c0_i32_8
  let v20 : BitVec 32 := Scalar.extui v19
  let c0_i32_9 : BitVec 32 := 0#32
  let v21 : BitVec 1 := Scalar.cmpi .ne v20 c0_i32_9
  v21

def k0_off32 (i : grid0.Coords) : Fin 3 → Nat :=
  let arg0 : BitVec 32 := BitVec.ofNat 32 (i 0).val
  let c0_i32_105 : BitVec 32 := 0#32
  let c0_i32_106 : BitVec 32 := 0#32
  ![arg0.toNat, 0, 0]
def k0_cond20 (i : grid0.Coords) : BitVec 1 :=
  let arg0 : BitVec 32 := BitVec.ofNat 32 (i 0).val
  let c0_i32_11 : BitVec 32 := 0#32
  let v23 : BitVec 1 := Scalar.cmpi .eq arg0 c0_i32_11
  let v24 : BitVec 32 := Scalar.extui v23
  let c0_i32_12 : BitVec 32 := 0#32
  let v25 : BitVec 1 := Scalar.cmpi .ne v24 c0_i32_12
  v25

def k0_off33 : Fin 2 → Nat :=
  let c0_i32_10 : BitVec 32 := 0#32
  let c512_i32_106 : BitVec 32 := 512#32
  let v219 : BitVec 32 := Scalar.muli c0_i32_10 c512_i32_106
  let c0_i32_107 : BitVec 32 := 0#32
  ![v219.toNat, 0]
def k0_off34 (i : grid0.Coords) : Fin 3 → Nat :=
  let arg0 : BitVec 32 := BitVec.ofNat 32 (i 0).val
  let c0_i32_10 : BitVec 32 := 0#32
  let c512_i32_105 : BitVec 32 := 512#32
  let v218 : BitVec 32 := Scalar.muli c0_i32_10 c512_i32_105
  let c0_i32_108 : BitVec 32 := 0#32
  ![arg0.toNat, v218.toNat, 0]
def k0_off35 (c0_i32_10 : BitVec 32) : Fin 2 → Nat :=
  let c512_i32 : BitVec 32 := 512#32
  let v26 : BitVec 32 := Scalar.muli c0_i32_10 c512_i32
  let v27 : Index := Scalar.indexCast v26
  let c0 : Index := 0#32
  ![v27.toNat, 0]
def k0_off36 (c0_i32_10 : BitVec 32) : Fin 2 → Nat :=
  let c512_i32_17 : BitVec 32 := 512#32
  let v39 : BitVec 32 := Scalar.muli c0_i32_10 c512_i32_17
  let v40 : Index := Scalar.indexCast v39
  let c0_18 : Index := 0#32
  ![v40.toNat, 0]
def k0_cond21 (i : grid0.Coords) : BitVec 1 :=
  let arg0 : BitVec 32 := BitVec.ofNat 32 (i 0).val
  let c0_i32_22 : BitVec 32 := 0#32
  let v51 : BitVec 1 := Scalar.cmpi .eq arg0 c0_i32_22
  let v52 : BitVec 32 := Scalar.extui v51
  let c0_i32_23 : BitVec 32 := 0#32
  let v53 : BitVec 1 := Scalar.cmpi .ne v52 c0_i32_23
  v53

def k0_off37 : Fin 2 → Nat :=
  let c1_i32_21 : BitVec 32 := 1#32
  let c512_i32_106 : BitVec 32 := 512#32
  let v219 : BitVec 32 := Scalar.muli c1_i32_21 c512_i32_106
  let c0_i32_107 : BitVec 32 := 0#32
  ![v219.toNat, 0]
def k0_off38 (i : grid0.Coords) : Fin 3 → Nat :=
  let arg0 : BitVec 32 := BitVec.ofNat 32 (i 0).val
  let c1_i32_21 : BitVec 32 := 1#32
  let c512_i32_105 : BitVec 32 := 512#32
  let v218 : BitVec 32 := Scalar.muli c1_i32_21 c512_i32_105
  let c0_i32_108 : BitVec 32 := 0#32
  ![arg0.toNat, v218.toNat, 0]
def k0_cond22 (i : grid0.Coords) : BitVec 1 :=
  let arg0 : BitVec 32 := BitVec.ofNat 32 (i 0).val
  let c0_i32_35 : BitVec 32 := 0#32
  let v79 : BitVec 1 := Scalar.cmpi .eq arg0 c0_i32_35
  let v80 : BitVec 32 := Scalar.extui v79
  let c0_i32_36 : BitVec 32 := 0#32
  let v81 : BitVec 1 := Scalar.cmpi .ne v80 c0_i32_36
  v81

def k0_off39 : Fin 2 → Nat :=
  let c2_i32_34 : BitVec 32 := 2#32
  let c512_i32_106 : BitVec 32 := 512#32
  let v219 : BitVec 32 := Scalar.muli c2_i32_34 c512_i32_106
  let c0_i32_107 : BitVec 32 := 0#32
  ![v219.toNat, 0]
def k0_off40 (i : grid0.Coords) : Fin 3 → Nat :=
  let arg0 : BitVec 32 := BitVec.ofNat 32 (i 0).val
  let c2_i32_34 : BitVec 32 := 2#32
  let c512_i32_105 : BitVec 32 := 512#32
  let v218 : BitVec 32 := Scalar.muli c2_i32_34 c512_i32_105
  let c0_i32_108 : BitVec 32 := 0#32
  ![arg0.toNat, v218.toNat, 0]
def k0_cond23 (i : grid0.Coords) : BitVec 1 :=
  let arg0 : BitVec 32 := BitVec.ofNat 32 (i 0).val
  let c0_i32_48 : BitVec 32 := 0#32
  let v107 : BitVec 1 := Scalar.cmpi .eq arg0 c0_i32_48
  let v108 : BitVec 32 := Scalar.extui v107
  let c0_i32_49 : BitVec 32 := 0#32
  let v109 : BitVec 1 := Scalar.cmpi .ne v108 c0_i32_49
  v109

def k0_off41 : Fin 2 → Nat :=
  let c3_i32_47 : BitVec 32 := 3#32
  let c512_i32_106 : BitVec 32 := 512#32
  let v219 : BitVec 32 := Scalar.muli c3_i32_47 c512_i32_106
  let c0_i32_107 : BitVec 32 := 0#32
  ![v219.toNat, 0]
def k0_off42 (i : grid0.Coords) : Fin 3 → Nat :=
  let arg0 : BitVec 32 := BitVec.ofNat 32 (i 0).val
  let c3_i32_47 : BitVec 32 := 3#32
  let c512_i32_105 : BitVec 32 := 512#32
  let v218 : BitVec 32 := Scalar.muli c3_i32_47 c512_i32_105
  let c0_i32_108 : BitVec 32 := 0#32
  ![arg0.toNat, v218.toNat, 0]
def k0_cond24 (i : grid0.Coords) : BitVec 1 :=
  let arg0 : BitVec 32 := BitVec.ofNat 32 (i 0).val
  let c0_i32_62 : BitVec 32 := 0#32
  let v137 : BitVec 1 := Scalar.cmpi .eq arg0 c0_i32_62
  let c1_i32_63 : BitVec 32 := 1#32
  let v138 : BitVec 32 := Scalar.addi arg0 c1_i32_63
  let c4_i32_64 : BitVec 32 := 4#32
  let v139 : BitVec 1 := Scalar.cmpi .slt v138 c4_i32_64
  let v140 : BitVec 1 := Scalar.andi v137 v139
  let v141 : BitVec 32 := Scalar.extui v140
  let c0_i32_65 : BitVec 32 := 0#32
  let v142 : BitVec 1 := Scalar.cmpi .ne v141 c0_i32_65
  v142

def k0_cond25 (i : grid0.Coords) : BitVec 1 :=
  let arg0 : BitVec 32 := BitVec.ofNat 32 (i 0).val
  let c2_i32_105 : BitVec 32 := 2#32
  let v218 : BitVec 1 := Scalar.cmpi .sge arg0 c2_i32_105
  let v219 : BitVec 32 := Scalar.extui v218
  let c0_i32_106 : BitVec 32 := 0#32
  let v220 : BitVec 1 := Scalar.cmpi .ne v219 c0_i32_106
  v220

def k0_off43 (i : grid0.Coords) : Fin 3 → Nat :=
  let arg0 : BitVec 32 := BitVec.ofNat 32 (i 0).val
  let c2_i32_110 : BitVec 32 := 2#32
  let v224 : BitVec 32 := Scalar.subi arg0 c2_i32_110
  let c0_i32_111 : BitVec 32 := 0#32
  let c0_i32_112 : BitVec 32 := 0#32
  ![v224.toNat, 0, 0]
def k0_off44 (i : grid0.Coords) : Fin 3 → Nat :=
  let arg0 : BitVec 32 := BitVec.ofNat 32 (i 0).val
  let c1_i32_107 : BitVec 32 := 1#32
  let v221 : BitVec 32 := Scalar.addi arg0 c1_i32_107
  let c0_i32_108 : BitVec 32 := 0#32
  let c0_i32_109 : BitVec 32 := 0#32
  ![v221.toNat, 0, 0]
@[reducible] def k0_t2_loop : Scf.Loop 32 :=
  let c0_i32_66 : BitVec 32 := 0#32
  let c9_i32 : BitVec 32 := 9#32
  let v143 : BitVec 32 := Scalar.addi c0_i32_66 c9_i32
  let c1_i32_67 : BitVec 32 := 1#32
  ⟨c0_i32_66, v143, c1_i32_67⟩
def k0_off45 (c0_i32_105 : BitVec 32) : Fin 2 → Nat :=
  let c512_i32_106 : BitVec 32 := 512#32
  let v218 : BitVec 32 := Scalar.muli c0_i32_105 c512_i32_106
  let v219 : Index := Scalar.indexCast v218
  let c0_107 : Index := 0#32
  ![v219.toNat, 0]
def k0_off46 (c0_i32_105 : BitVec 32) : Fin 2 → Nat :=
  let c512_i32_109 : BitVec 32 := 512#32
  let v225 : BitVec 32 := Scalar.muli c0_i32_105 c512_i32_109
  let v226 : Index := Scalar.indexCast v225
  let c0_110 : Index := 0#32
  ![v226.toNat, 0]
def k0_off47 (i : grid0.Coords) : Fin 3 → Nat :=
  let arg0 : BitVec 32 := BitVec.ofNat 32 (i 0).val
  let c0_i32_101 : BitVec 32 := 0#32
  let c0_i32_102 : BitVec 32 := 0#32
  ![arg0.toNat, 0, 0]
def k0_cond26 (i : grid0.Coords) : BitVec 1 :=
  let arg0 : BitVec 32 := BitVec.ofNat 32 (i 0).val
  let c3_i32_103 : BitVec 32 := 3#32
  let v215 : BitVec 1 := Scalar.cmpi .eq arg0 c3_i32_103
  let v216 : BitVec 32 := Scalar.extui v215
  let c0_i32_104 : BitVec 32 := 0#32
  let v217 : BitVec 1 := Scalar.cmpi .ne v216 c0_i32_104
  v217

def k0_cond27 (i : grid0.Coords) : BitVec 1 :=
  let arg0 : BitVec 32 := BitVec.ofNat 32 (i 0).val
  let c2_i32_105 : BitVec 32 := 2#32
  let v218 : BitVec 1 := Scalar.cmpi .sge arg0 c2_i32_105
  let v219 : BitVec 32 := Scalar.extui v218
  let c0_i32_106 : BitVec 32 := 0#32
  let v220 : BitVec 1 := Scalar.cmpi .ne v219 c0_i32_106
  v220

def k0_off48 (i : grid0.Coords) : Fin 3 → Nat :=
  let arg0 : BitVec 32 := BitVec.ofNat 32 (i 0).val
  let c2_i32_111 : BitVec 32 := 2#32
  let v226 : BitVec 32 := Scalar.subi arg0 c2_i32_111
  let c0_i32_112 : BitVec 32 := 0#32
  let c0_i32_113 : BitVec 32 := 0#32
  ![v226.toNat, 0, 0]
def k0_cond28 (i : grid0.Coords) : BitVec 1 :=
  let arg0 : BitVec 32 := BitVec.ofNat 32 (i 0).val
  let c1_i32_107 : BitVec 32 := 1#32
  let v221 : BitVec 1 := Scalar.cmpi .sge arg0 c1_i32_107
  let v222 : BitVec 32 := Scalar.extui v221
  let c0_i32_108 : BitVec 32 := 0#32
  let v223 : BitVec 1 := Scalar.cmpi .ne v222 c0_i32_108
  v223

def k0_off49 (i : grid0.Coords) : Fin 3 → Nat :=
  let arg0 : BitVec 32 := BitVec.ofNat 32 (i 0).val
  let c1_i32_111 : BitVec 32 := 1#32
  let v226 : BitVec 32 := Scalar.subi arg0 c1_i32_111
  let c0_i32_112 : BitVec 32 := 0#32
  let c0_i32_113 : BitVec 32 := 0#32
  ![v226.toNat, 0, 0]
def k0_off50 (i : grid0.Coords) : Fin 3 → Nat :=
  let arg0 : BitVec 32 := BitVec.ofNat 32 (i 0).val
  let c0_i32_109 : BitVec 32 := 0#32
  let c0_i32_110 : BitVec 32 := 0#32
  ![arg0.toNat, 0, 0]
def k0_cond29 (i : grid0.Coords) : BitVec 1 :=
  let arg0 : BitVec 32 := BitVec.ofNat 32 (i 0).val
  let c3_i32 : BitVec 32 := 3#32
  let v0 : BitVec 32 := Scalar.remsi arg0 c3_i32
  let c2_i32 : BitVec 32 := 2#32
  let v7 : BitVec 1 := Scalar.cmpi .eq v0 c2_i32
  let v8 : BitVec 32 := Scalar.extui v7
  let c0_i32_2 : BitVec 32 := 0#32
  let v9 : BitVec 1 := Scalar.cmpi .ne v8 c0_i32_2
  v9

def k0_cond30 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

def k0_off51 (i : grid0.Coords) : Fin 3 → Nat :=
  let arg0 : BitVec 32 := BitVec.ofNat 32 (i 0).val
  let c0_i32_108 : BitVec 32 := 0#32
  let c0_i32_109 : BitVec 32 := 0#32
  ![arg0.toNat, 0, 0]
def k0_off52 (i : grid0.Coords) : Fin 3 → Nat :=
  let arg0 : BitVec 32 := BitVec.ofNat 32 (i 0).val
  let c512_i32_113 : BitVec 32 := 512#32
  let c0_i32_114 : BitVec 32 := 0#32
  ![arg0.toNat, 512, 0]
def k0_off53 (i : grid0.Coords) : Fin 3 → Nat :=
  let arg0 : BitVec 32 := BitVec.ofNat 32 (i 0).val
  let c1024_i32_117 : BitVec 32 := 1024#32
  let c0_i32_118 : BitVec 32 := 0#32
  ![arg0.toNat, 1024, 0]
def k0_off54 (i : grid0.Coords) : Fin 3 → Nat :=
  let arg0 : BitVec 32 := BitVec.ofNat 32 (i 0).val
  let c1536_i32_121 : BitVec 32 := 1536#32
  let c0_i32_122 : BitVec 32 := 0#32
  ![arg0.toNat, 1536, 0]
def k0_cond31 (i : grid0.Coords) : BitVec 1 :=
  let arg0 : BitVec 32 := BitVec.ofNat 32 (i 0).val
  let c1_i32_5 : BitVec 32 := 1#32
  let v13 : BitVec 1 := Scalar.cmpi .sge arg0 c1_i32_5
  let c1_i32_6 : BitVec 32 := 1#32
  let v14 : BitVec 32 := Scalar.addi arg0 c1_i32_6
  let c4_i32 : BitVec 32 := 4#32
  let v15 : BitVec 1 := Scalar.cmpi .slt v14 c4_i32
  let v16 : BitVec 1 := Scalar.andi v13 v15
  let v17 : BitVec 32 := Scalar.extui v16
  let c0_i32_7 : BitVec 32 := 0#32
  let v18 : BitVec 1 := Scalar.cmpi .ne v17 c0_i32_7
  v18

def k0_cond32 (i : grid0.Coords) : BitVec 1 :=
  let arg0 : BitVec 32 := BitVec.ofNat 32 (i 0).val
  let c2_i32_105 : BitVec 32 := 2#32
  let v218 : BitVec 1 := Scalar.cmpi .sge arg0 c2_i32_105
  let v219 : BitVec 32 := Scalar.extui v218
  let c0_i32_106 : BitVec 32 := 0#32
  let v220 : BitVec 1 := Scalar.cmpi .ne v219 c0_i32_106
  v220

def k0_off55 (i : grid0.Coords) : Fin 3 → Nat :=
  let arg0 : BitVec 32 := BitVec.ofNat 32 (i 0).val
  let c2_i32_110 : BitVec 32 := 2#32
  let v224 : BitVec 32 := Scalar.subi arg0 c2_i32_110
  let c0_i32_111 : BitVec 32 := 0#32
  let c0_i32_112 : BitVec 32 := 0#32
  ![v224.toNat, 0, 0]
def k0_off56 (i : grid0.Coords) : Fin 3 → Nat :=
  let arg0 : BitVec 32 := BitVec.ofNat 32 (i 0).val
  let c1_i32_107 : BitVec 32 := 1#32
  let v221 : BitVec 32 := Scalar.addi arg0 c1_i32_107
  let c0_i32_108 : BitVec 32 := 0#32
  let c0_i32_109 : BitVec 32 := 0#32
  ![v221.toNat, 0, 0]
def k0_cond33 (i : grid0.Coords) : BitVec 1 :=
  let arg0 : BitVec 32 := BitVec.ofNat 32 (i 0).val
  let c0_i32_8 : BitVec 32 := 0#32
  let v19 : BitVec 1 := Scalar.cmpi .sgt arg0 c0_i32_8
  let v20 : BitVec 32 := Scalar.extui v19
  let c0_i32_9 : BitVec 32 := 0#32
  let v21 : BitVec 1 := Scalar.cmpi .ne v20 c0_i32_9
  v21

def k0_off57 (i : grid0.Coords) : Fin 3 → Nat :=
  let arg0 : BitVec 32 := BitVec.ofNat 32 (i 0).val
  let c0_i32_105 : BitVec 32 := 0#32
  let c0_i32_106 : BitVec 32 := 0#32
  ![arg0.toNat, 0, 0]
def k0_cond34 (i : grid0.Coords) : BitVec 1 :=
  let arg0 : BitVec 32 := BitVec.ofNat 32 (i 0).val
  let c0_i32_11 : BitVec 32 := 0#32
  let v23 : BitVec 1 := Scalar.cmpi .eq arg0 c0_i32_11
  let v24 : BitVec 32 := Scalar.extui v23
  let c0_i32_12 : BitVec 32 := 0#32
  let v25 : BitVec 1 := Scalar.cmpi .ne v24 c0_i32_12
  v25

def k0_off58 : Fin 2 → Nat :=
  let c0_i32_10 : BitVec 32 := 0#32
  let c512_i32_106 : BitVec 32 := 512#32
  let v219 : BitVec 32 := Scalar.muli c0_i32_10 c512_i32_106
  let c0_i32_107 : BitVec 32 := 0#32
  ![v219.toNat, 0]
def k0_off59 (i : grid0.Coords) : Fin 3 → Nat :=
  let arg0 : BitVec 32 := BitVec.ofNat 32 (i 0).val
  let c0_i32_10 : BitVec 32 := 0#32
  let c512_i32_105 : BitVec 32 := 512#32
  let v218 : BitVec 32 := Scalar.muli c0_i32_10 c512_i32_105
  let c0_i32_108 : BitVec 32 := 0#32
  ![arg0.toNat, v218.toNat, 0]
def k0_off60 (c0_i32_10 : BitVec 32) : Fin 2 → Nat :=
  let c512_i32 : BitVec 32 := 512#32
  let v26 : BitVec 32 := Scalar.muli c0_i32_10 c512_i32
  let v27 : Index := Scalar.indexCast v26
  let c0 : Index := 0#32
  ![v27.toNat, 0]
def k0_off61 (c0_i32_10 : BitVec 32) : Fin 2 → Nat :=
  let c512_i32_17 : BitVec 32 := 512#32
  let v39 : BitVec 32 := Scalar.muli c0_i32_10 c512_i32_17
  let v40 : Index := Scalar.indexCast v39
  let c0_18 : Index := 0#32
  ![v40.toNat, 0]
def k0_cond35 (i : grid0.Coords) : BitVec 1 :=
  let arg0 : BitVec 32 := BitVec.ofNat 32 (i 0).val
  let c0_i32_22 : BitVec 32 := 0#32
  let v51 : BitVec 1 := Scalar.cmpi .eq arg0 c0_i32_22
  let v52 : BitVec 32 := Scalar.extui v51
  let c0_i32_23 : BitVec 32 := 0#32
  let v53 : BitVec 1 := Scalar.cmpi .ne v52 c0_i32_23
  v53

def k0_off62 : Fin 2 → Nat :=
  let c1_i32_21 : BitVec 32 := 1#32
  let c512_i32_106 : BitVec 32 := 512#32
  let v219 : BitVec 32 := Scalar.muli c1_i32_21 c512_i32_106
  let c0_i32_107 : BitVec 32 := 0#32
  ![v219.toNat, 0]
def k0_off63 (i : grid0.Coords) : Fin 3 → Nat :=
  let arg0 : BitVec 32 := BitVec.ofNat 32 (i 0).val
  let c1_i32_21 : BitVec 32 := 1#32
  let c512_i32_105 : BitVec 32 := 512#32
  let v218 : BitVec 32 := Scalar.muli c1_i32_21 c512_i32_105
  let c0_i32_108 : BitVec 32 := 0#32
  ![arg0.toNat, v218.toNat, 0]
def k0_cond36 (i : grid0.Coords) : BitVec 1 :=
  let arg0 : BitVec 32 := BitVec.ofNat 32 (i 0).val
  let c0_i32_35 : BitVec 32 := 0#32
  let v79 : BitVec 1 := Scalar.cmpi .eq arg0 c0_i32_35
  let v80 : BitVec 32 := Scalar.extui v79
  let c0_i32_36 : BitVec 32 := 0#32
  let v81 : BitVec 1 := Scalar.cmpi .ne v80 c0_i32_36
  v81

def k0_off64 : Fin 2 → Nat :=
  let c2_i32_34 : BitVec 32 := 2#32
  let c512_i32_106 : BitVec 32 := 512#32
  let v219 : BitVec 32 := Scalar.muli c2_i32_34 c512_i32_106
  let c0_i32_107 : BitVec 32 := 0#32
  ![v219.toNat, 0]
def k0_off65 (i : grid0.Coords) : Fin 3 → Nat :=
  let arg0 : BitVec 32 := BitVec.ofNat 32 (i 0).val
  let c2_i32_34 : BitVec 32 := 2#32
  let c512_i32_105 : BitVec 32 := 512#32
  let v218 : BitVec 32 := Scalar.muli c2_i32_34 c512_i32_105
  let c0_i32_108 : BitVec 32 := 0#32
  ![arg0.toNat, v218.toNat, 0]
def k0_cond37 (i : grid0.Coords) : BitVec 1 :=
  let arg0 : BitVec 32 := BitVec.ofNat 32 (i 0).val
  let c0_i32_48 : BitVec 32 := 0#32
  let v107 : BitVec 1 := Scalar.cmpi .eq arg0 c0_i32_48
  let v108 : BitVec 32 := Scalar.extui v107
  let c0_i32_49 : BitVec 32 := 0#32
  let v109 : BitVec 1 := Scalar.cmpi .ne v108 c0_i32_49
  v109

def k0_off66 : Fin 2 → Nat :=
  let c3_i32_47 : BitVec 32 := 3#32
  let c512_i32_106 : BitVec 32 := 512#32
  let v219 : BitVec 32 := Scalar.muli c3_i32_47 c512_i32_106
  let c0_i32_107 : BitVec 32 := 0#32
  ![v219.toNat, 0]
def k0_off67 (i : grid0.Coords) : Fin 3 → Nat :=
  let arg0 : BitVec 32 := BitVec.ofNat 32 (i 0).val
  let c3_i32_47 : BitVec 32 := 3#32
  let c512_i32_105 : BitVec 32 := 512#32
  let v218 : BitVec 32 := Scalar.muli c3_i32_47 c512_i32_105
  let c0_i32_108 : BitVec 32 := 0#32
  ![arg0.toNat, v218.toNat, 0]
def k0_cond38 (i : grid0.Coords) : BitVec 1 :=
  let arg0 : BitVec 32 := BitVec.ofNat 32 (i 0).val
  let c0_i32_62 : BitVec 32 := 0#32
  let v137 : BitVec 1 := Scalar.cmpi .eq arg0 c0_i32_62
  let c1_i32_63 : BitVec 32 := 1#32
  let v138 : BitVec 32 := Scalar.addi arg0 c1_i32_63
  let c4_i32_64 : BitVec 32 := 4#32
  let v139 : BitVec 1 := Scalar.cmpi .slt v138 c4_i32_64
  let v140 : BitVec 1 := Scalar.andi v137 v139
  let v141 : BitVec 32 := Scalar.extui v140
  let c0_i32_65 : BitVec 32 := 0#32
  let v142 : BitVec 1 := Scalar.cmpi .ne v141 c0_i32_65
  v142

def k0_cond39 (i : grid0.Coords) : BitVec 1 :=
  let arg0 : BitVec 32 := BitVec.ofNat 32 (i 0).val
  let c2_i32_105 : BitVec 32 := 2#32
  let v218 : BitVec 1 := Scalar.cmpi .sge arg0 c2_i32_105
  let v219 : BitVec 32 := Scalar.extui v218
  let c0_i32_106 : BitVec 32 := 0#32
  let v220 : BitVec 1 := Scalar.cmpi .ne v219 c0_i32_106
  v220

def k0_off68 (i : grid0.Coords) : Fin 3 → Nat :=
  let arg0 : BitVec 32 := BitVec.ofNat 32 (i 0).val
  let c2_i32_110 : BitVec 32 := 2#32
  let v224 : BitVec 32 := Scalar.subi arg0 c2_i32_110
  let c0_i32_111 : BitVec 32 := 0#32
  let c0_i32_112 : BitVec 32 := 0#32
  ![v224.toNat, 0, 0]
def k0_off69 (i : grid0.Coords) : Fin 3 → Nat :=
  let arg0 : BitVec 32 := BitVec.ofNat 32 (i 0).val
  let c1_i32_107 : BitVec 32 := 1#32
  let v221 : BitVec 32 := Scalar.addi arg0 c1_i32_107
  let c0_i32_108 : BitVec 32 := 0#32
  let c0_i32_109 : BitVec 32 := 0#32
  ![v221.toNat, 0, 0]
@[reducible] def k0_t3_loop : Scf.Loop 32 :=
  let c0_i32_66 : BitVec 32 := 0#32
  let c9_i32 : BitVec 32 := 9#32
  let v143 : BitVec 32 := Scalar.addi c0_i32_66 c9_i32
  let c1_i32_67 : BitVec 32 := 1#32
  ⟨c0_i32_66, v143, c1_i32_67⟩
def k0_off70 (c0_i32_105 : BitVec 32) : Fin 2 → Nat :=
  let c512_i32_106 : BitVec 32 := 512#32
  let v218 : BitVec 32 := Scalar.muli c0_i32_105 c512_i32_106
  let v219 : Index := Scalar.indexCast v218
  let c0_107 : Index := 0#32
  ![v219.toNat, 0]
def k0_off71 (c0_i32_105 : BitVec 32) : Fin 2 → Nat :=
  let c512_i32_109 : BitVec 32 := 512#32
  let v225 : BitVec 32 := Scalar.muli c0_i32_105 c512_i32_109
  let v226 : Index := Scalar.indexCast v225
  let c0_110 : Index := 0#32
  ![v226.toNat, 0]
def k0_off72 (i : grid0.Coords) : Fin 3 → Nat :=
  let arg0 : BitVec 32 := BitVec.ofNat 32 (i 0).val
  let c0_i32_101 : BitVec 32 := 0#32
  let c0_i32_102 : BitVec 32 := 0#32
  ![arg0.toNat, 0, 0]
def k0_cond40 (i : grid0.Coords) : BitVec 1 :=
  let arg0 : BitVec 32 := BitVec.ofNat 32 (i 0).val
  let c3_i32_103 : BitVec 32 := 3#32
  let v215 : BitVec 1 := Scalar.cmpi .eq arg0 c3_i32_103
  let v216 : BitVec 32 := Scalar.extui v215
  let c0_i32_104 : BitVec 32 := 0#32
  let v217 : BitVec 1 := Scalar.cmpi .ne v216 c0_i32_104
  v217

def k0_cond41 (i : grid0.Coords) : BitVec 1 :=
  let arg0 : BitVec 32 := BitVec.ofNat 32 (i 0).val
  let c2_i32_105 : BitVec 32 := 2#32
  let v218 : BitVec 1 := Scalar.cmpi .sge arg0 c2_i32_105
  let v219 : BitVec 32 := Scalar.extui v218
  let c0_i32_106 : BitVec 32 := 0#32
  let v220 : BitVec 1 := Scalar.cmpi .ne v219 c0_i32_106
  v220

def k0_off73 (i : grid0.Coords) : Fin 3 → Nat :=
  let arg0 : BitVec 32 := BitVec.ofNat 32 (i 0).val
  let c2_i32_111 : BitVec 32 := 2#32
  let v226 : BitVec 32 := Scalar.subi arg0 c2_i32_111
  let c0_i32_112 : BitVec 32 := 0#32
  let c0_i32_113 : BitVec 32 := 0#32
  ![v226.toNat, 0, 0]
def k0_cond42 (i : grid0.Coords) : BitVec 1 :=
  let arg0 : BitVec 32 := BitVec.ofNat 32 (i 0).val
  let c1_i32_107 : BitVec 32 := 1#32
  let v221 : BitVec 1 := Scalar.cmpi .sge arg0 c1_i32_107
  let v222 : BitVec 32 := Scalar.extui v221
  let c0_i32_108 : BitVec 32 := 0#32
  let v223 : BitVec 1 := Scalar.cmpi .ne v222 c0_i32_108
  v223

def k0_off74 (i : grid0.Coords) : Fin 3 → Nat :=
  let arg0 : BitVec 32 := BitVec.ofNat 32 (i 0).val
  let c1_i32_111 : BitVec 32 := 1#32
  let v226 : BitVec 32 := Scalar.subi arg0 c1_i32_111
  let c0_i32_112 : BitVec 32 := 0#32
  let c0_i32_113 : BitVec 32 := 0#32
  ![v226.toNat, 0, 0]
def k0_off75 (i : grid0.Coords) : Fin 3 → Nat :=
  let arg0 : BitVec 32 := BitVec.ofNat 32 (i 0).val
  let c0_i32_109 : BitVec 32 := 0#32
  let c0_i32_110 : BitVec 32 := 0#32
  ![arg0.toNat, 0, 0]
-- ==== ReferenceIdeal.lean ====
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩
abbrev S4x1x2048 : Shape := ⟨3, ![4, 1, 2048]⟩

abbrev nBuf : Space → Nat
  | .hbm => 425
  | .vmem => 0
  | .smem => 0
  | _ => 0

abbrev hbmTy0_0 (i : Nat) : BufTy := match i % 128 with
  | 0 => ⟨S4x2048x2048, .f32⟩
  | 1 => ⟨S_, .f32⟩
  | 2 => ⟨S4x2048x2048, .f32⟩
  | 3 => ⟨S4x2048x2048, .f32⟩
  | 4 => ⟨S_, .f32⟩
  | 5 => ⟨S4x2048, .f32⟩
  | 6 => ⟨S4x2048x1, .f32⟩
  | 7 => ⟨S4x2048x1, .f32⟩
  | 8 => ⟨S_, .f32⟩
  | 9 => ⟨S4x2048x1, .f32⟩
  | 10 => ⟨S4x2048x1, .i1⟩
  | 11 => ⟨S_, .f32⟩
  | 12 => ⟨S_, .f32⟩
  | 13 => ⟨S4x2048x1, .f32⟩
  | 14 => ⟨S4x2048x1, .f32⟩
  | 15 => ⟨S4x2048x2048, .f32⟩
  | 16 => ⟨S4x2048x2048, .f32⟩
  | 17 => ⟨S4x2048x2048, .f32⟩
  | 18 => ⟨S_, .f32⟩
  | 19 => ⟨S4x2048, .f32⟩
  | 20 => ⟨S4x2048x1, .f32⟩
  | 21 => ⟨S4x2048x1, .f32⟩
  | 22 => ⟨S4x2048x1, .f32⟩
  | 23 => ⟨S4x2048x2048, .f32⟩
  | 24 => ⟨S4x2048x2048, .f32⟩
  | 25 => ⟨S_, .f32⟩
  | 26 => ⟨S4x2048, .f32⟩
  | 27 => ⟨S4x1x2048, .f32⟩
  | 28 => ⟨S4x1x2048, .f32⟩
  | 29 => ⟨S_, .f32⟩
  | 30 => ⟨S4x1x2048, .f32⟩
  | 31 => ⟨S4x1x2048, .i1⟩
  | 32 => ⟨S_, .f32⟩
  | 33 => ⟨S_, .f32⟩
  | 34 => ⟨S4x1x2048, .f32⟩
  | 35 => ⟨S4x1x2048, .f32⟩
  | 36 => ⟨S4x2048x2048, .f32⟩
  | 37 => ⟨S4x2048x2048, .f32⟩
  | 38 => ⟨S4x2048x2048, .f32⟩
  | 39 => ⟨S_, .f32⟩
  | 40 => ⟨S4x2048, .f32⟩
  | 41 => ⟨S4x1x2048, .f32⟩
  | 42 => ⟨S4x1x2048, .f32⟩
  | 43 => ⟨S4x1x2048, .f32⟩
  | 44 => ⟨S4x2048x2048, .f32⟩
  | 45 => ⟨S4x2048x2048, .f32⟩
  | 46 => ⟨S_, .f32⟩
  | 47 => ⟨S4x2048, .f32⟩
  | 48 => ⟨S4x2048x1, .f32⟩
  | 49 => ⟨S4x2048x1, .f32⟩
  | 50 => ⟨S_, .f32⟩
  | 51 => ⟨S4x2048x1, .f32⟩
  | 52 => ⟨S4x2048x1, .i1⟩
  | 53 => ⟨S_, .f32⟩
  | 54 => ⟨S_, .f32⟩
  | 55 => ⟨S4x2048x1, .f32⟩
  | 56 => ⟨S4x2048x1, .f32⟩
  | 57 => ⟨S4x2048x2048, .f32⟩
  | 58 => ⟨S4x2048x2048, .f32⟩
  | 59 => ⟨S4x2048x2048, .f32⟩
  | 60 => ⟨S_, .f32⟩
  | 61 => ⟨S4x2048, .f32⟩
  | 62 => ⟨S4x2048x1, .f32⟩
  | 63 => ⟨S4x2048x1, .f32⟩
  | 64 => ⟨S4x2048x1, .f32⟩
  | 65 => ⟨S4x2048x2048, .f32⟩
  | 66 => ⟨S4x2048x2048, .f32⟩
  | 67 => ⟨S_, .f32⟩
  | 68 => ⟨S4x2048, .f32⟩
  | 69 => ⟨S4x1x2048, .f32⟩
  | 70 => ⟨S4x1x2048, .f32⟩
  | 71 => ⟨S_, .f32⟩
  | 72 => ⟨S4x1x2048, .f32⟩
  | 73 => ⟨S4x1x2048, .i1⟩
  | 74 => ⟨S_, .f32⟩
  | 75 => ⟨S_, .f32⟩
  | 76 => ⟨S4x1x2048, .f32⟩
  | 77 => ⟨S4x1x2048, .f32⟩
  | 78 => ⟨S4x2048x2048, .f32⟩
  | 79 => ⟨S4x2048x2048, .f32⟩
  | 80 => ⟨S4x2048x2048, .f32⟩
  | 81 => ⟨S_, .f32⟩
  | 82 => ⟨S4x2048, .f32⟩
  | 83 => ⟨S4x1x2048, .f32⟩
  | 84 => ⟨S4x1x2048, .f32⟩
  | 85 => ⟨S4x1x2048, .f32⟩
  | 86 => ⟨S4x2048x2048, .f32⟩
  | 87 => ⟨S4x2048x2048, .f32⟩
  | 88 => ⟨S_, .f32⟩
  | 89 => ⟨S4x2048, .f32⟩
  | 90 => ⟨S4x2048x1, .f32⟩
  | 91 => ⟨S4x2048x1, .f32⟩
  | 92 => ⟨S_, .f32⟩
  | 93 => ⟨S4x2048x1, .f32⟩
  | 94 => ⟨S4x2048x1, .i1⟩
  | 95 => ⟨S_, .f32⟩
  | 96 => ⟨S_, .f32⟩
  | 97 => ⟨S4x2048x1, .f32⟩
  | 98 => ⟨S4x2048x1, .f32⟩
  | 99 => ⟨S4x2048x2048, .f32⟩
  | 100 => ⟨S4x2048x2048, .f32⟩
  | 101 => ⟨S4x2048x2048, .f32⟩
  | 102 => ⟨S_, .f32⟩
  | 103 => ⟨S4x2048, .f32⟩
  | 104 => ⟨S4x2048x1, .f32⟩
  | 105 => ⟨S4x2048x1, .f32⟩
  | 106 => ⟨S4x2048x1, .f32⟩
  | 107 => ⟨S4x2048x2048, .f32⟩
  | 108 => ⟨S4x2048x2048, .f32⟩
  | 109 => ⟨S_, .f32⟩
  | 110 => ⟨S4x2048, .f32⟩
  | 111 => ⟨S4x1x2048, .f32⟩
  | 112 => ⟨S4x1x2048, .f32⟩
  | 113 => ⟨S_, .f32⟩
  | 114 => ⟨S4x1x2048, .f32⟩
  | 115 => ⟨S4x1x2048, .i1⟩
  | 116 => ⟨S_, .f32⟩
  | 117 => ⟨S_, .f32⟩
  | 118 => ⟨S4x1x2048, .f32⟩
  | 119 => ⟨S4x1x2048, .f32⟩
  | 120 => ⟨S4x2048x2048, .f32⟩
  | 121 => ⟨S4x2048x2048, .f32⟩
  | 122 => ⟨S4x2048x2048, .f32⟩
  | 123 => ⟨S_, .f32⟩
  | 124 => ⟨S4x2048, .f32⟩
  | 125 => ⟨S4x1x2048, .f32⟩
  | 126 => ⟨S4x1x2048, .f32⟩
  | 127 => ⟨S4x1x2048, .f32⟩
  | _ => ⟨S4x2048x2048, .f32⟩

abbrev hbmTy0_1 (i : Nat) : BufTy := match i % 128 with
  | 0 => ⟨S4x2048x2048, .f32⟩
  | 1 => ⟨S4x2048x2048, .f32⟩
  | 2 => ⟨S_, .f32⟩
  | 3 => ⟨S4x2048, .f32⟩
  | 4 => ⟨S4x2048x1, .f32⟩
  | 5 => ⟨S4x2048x1, .f32⟩
  | 6 => ⟨S_, .f32⟩
  | 7 => ⟨S4x2048x1, .f32⟩
  | 8 => ⟨S4x2048x1, .i1⟩
  | 9 => ⟨S_, .f32⟩
  | 10 => ⟨S_, .f32⟩
  | 11 => ⟨S4x2048x1, .f32⟩
  | 12 => ⟨S4x2048x1, .f32⟩
  | 13 => ⟨S4x2048x2048, .f32⟩
  | 14 => ⟨S4x2048x2048, .f32⟩
  | 15 => ⟨S4x2048x2048, .f32⟩
  | 16 => ⟨S_, .f32⟩
  | 17 => ⟨S4x2048, .f32⟩
  | 18 => ⟨S4x2048x1, .f32⟩
  | 19 => ⟨S4x2048x1, .f32⟩
  | 20 => ⟨S4x2048x1, .f32⟩
  | 21 => ⟨S4x2048x2048, .f32⟩
  | 22 => ⟨S4x2048x2048, .f32⟩
  | 23 => ⟨S_, .f32⟩
  | 24 => ⟨S4x2048, .f32⟩
  | 25 => ⟨S4x1x2048, .f32⟩
  | 26 => ⟨S4x1x2048, .f32⟩
  | 27 => ⟨S_, .f32⟩
  | 28 => ⟨S4x1x2048, .f32⟩
  | 29 => ⟨S4x1x2048, .i1⟩
  | 30 => ⟨S_, .f32⟩
  | 31 => ⟨S_, .f32⟩
  | 32 => ⟨S4x1x2048, .f32⟩
  | 33 => ⟨S4x1x2048, .f32⟩
  | 34 => ⟨S4x2048x2048, .f32⟩
  | 35 => ⟨S4x2048x2048, .f32⟩
  | 36 => ⟨S4x2048x2048, .f32⟩
  | 37 => ⟨S_, .f32⟩
  | 38 => ⟨S4x2048, .f32⟩
  | 39 => ⟨S4x1x2048, .f32⟩
  | 40 => ⟨S4x1x2048, .f32⟩
  | 41 => ⟨S4x1x2048, .f32⟩
  | 42 => ⟨S4x2048x2048, .f32⟩
  | 43 => ⟨S4x2048x2048, .f32⟩
  | 44 => ⟨S_, .f32⟩
  | 45 => ⟨S4x2048, .f32⟩
  | 46 => ⟨S4x2048x1, .f32⟩
  | 47 => ⟨S4x2048x1, .f32⟩
  | 48 => ⟨S_, .f32⟩
  | 49 => ⟨S4x2048x1, .f32⟩
  | 50 => ⟨S4x2048x1, .i1⟩
  | 51 => ⟨S_, .f32⟩
  | 52 => ⟨S_, .f32⟩
  | 53 => ⟨S4x2048x1, .f32⟩
  | 54 => ⟨S4x2048x1, .f32⟩
  | 55 => ⟨S4x2048x2048, .f32⟩
  | 56 => ⟨S4x2048x2048, .f32⟩
  | 57 => ⟨S4x2048x2048, .f32⟩
  | 58 => ⟨S_, .f32⟩
  | 59 => ⟨S4x2048, .f32⟩
  | 60 => ⟨S4x2048x1, .f32⟩
  | 61 => ⟨S4x2048x1, .f32⟩
  | 62 => ⟨S4x2048x1, .f32⟩
  | 63 => ⟨S4x2048x2048, .f32⟩
  | 64 => ⟨S4x2048x2048, .f32⟩
  | 65 => ⟨S_, .f32⟩
  | 66 => ⟨S4x2048, .f32⟩
  | 67 => ⟨S4x1x2048, .f32⟩
  | 68 => ⟨S4x1x2048, .f32⟩
  | 69 => ⟨S_, .f32⟩
  | 70 => ⟨S4x1x2048, .f32⟩
  | 71 => ⟨S4x1x2048, .i1⟩
  | 72 => ⟨S_, .f32⟩
  | 73 => ⟨S_, .f32⟩
  | 74 => ⟨S4x1x2048, .f32⟩
  | 75 => ⟨S4x1x2048, .f32⟩
  | 76 => ⟨S4x2048x2048, .f32⟩
  | 77 => ⟨S4x2048x2048, .f32⟩
  | 78 => ⟨S4x2048x2048, .f32⟩
  | 79 => ⟨S_, .f32⟩
  | 80 => ⟨S4x2048, .f32⟩
  | 81 => ⟨S4x1x2048, .f32⟩
  | 82 => ⟨S4x1x2048, .f32⟩
  | 83 => ⟨S4x1x2048, .f32⟩
  | 84 => ⟨S4x2048x2048, .f32⟩
  | 85 => ⟨S4x2048x2048, .f32⟩
  | 86 => ⟨S_, .f32⟩
  | 87 => ⟨S4x2048, .f32⟩
  | 88 => ⟨S4x2048x1, .f32⟩
  | 89 => ⟨S4x2048x1, .f32⟩
  | 90 => ⟨S_, .f32⟩
  | 91 => ⟨S4x2048x1, .f32⟩
  | 92 => ⟨S4x2048x1, .i1⟩
  | 93 => ⟨S_, .f32⟩
  | 94 => ⟨S_, .f32⟩
  | 95 => ⟨S4x2048x1, .f32⟩
  | 96 => ⟨S4x2048x1, .f32⟩
  | 97 => ⟨S4x2048x2048, .f32⟩
  | 98 => ⟨S4x2048x2048, .f32⟩
  | 99 => ⟨S4x2048x2048, .f32⟩
  | 100 => ⟨S_, .f32⟩
  | 101 => ⟨S4x2048, .f32⟩
  | 102 => ⟨S4x2048x1, .f32⟩
  | 103 => ⟨S4x2048x1, .f32⟩
  | 104 => ⟨S4x2048x1, .f32⟩
  | 105 => ⟨S4x2048x2048, .f32⟩
  | 106 => ⟨S4x2048x2048, .f32⟩
  | 107 => ⟨S_, .f32⟩
  | 108 => ⟨S4x2048, .f32⟩
  | 109 => ⟨S4x1x2048, .f32⟩
  | 110 => ⟨S4x1x2048, .f32⟩
  | 111 => ⟨S_, .f32⟩
  | 112 => ⟨S4x1x2048, .f32⟩
  | 113 => ⟨S4x1x2048, .i1⟩
  | 114 => ⟨S_, .f32⟩
  | 115 => ⟨S_, .f32⟩
  | 116 => ⟨S4x1x2048, .f32⟩
  | 117 => ⟨S4x1x2048, .f32⟩
  | 118 => ⟨S4x2048x2048, .f32⟩
  | 119 => ⟨S4x2048x2048, .f32⟩
  | 120 => ⟨S4x2048x2048, .f32⟩
  | 121 => ⟨S_, .f32⟩
  | 122 => ⟨S4x2048, .f32⟩
  | 123 => ⟨S4x1x2048, .f32⟩
  | 124 => ⟨S4x1x2048, .f32⟩
  | 125 => ⟨S4x1x2048, .f32⟩
  | 126 => ⟨S4x2048x2048, .f32⟩
  | 127 => ⟨S4x2048x2048, .f32⟩
  | _ => ⟨S4x2048x2048, .f32⟩

abbrev hbmTy0_2 (i : Nat) : BufTy := match i % 128 with
  | 0 => ⟨S_, .f32⟩
  | 1 => ⟨S4x2048, .f32⟩
  | 2 => ⟨S4x2048x1, .f32⟩
  | 3 => ⟨S4x2048x1, .f32⟩
  | 4 => ⟨S_, .f32⟩
  | 5 => ⟨S4x2048x1, .f32⟩
  | 6 => ⟨S4x2048x1, .i1⟩
  | 7 => ⟨S_, .f32⟩
  | 8 => ⟨S_, .f32⟩
  | 9 => ⟨S4x2048x1, .f32⟩
  | 10 => ⟨S4x2048x1, .f32⟩
  | 11 => ⟨S4x2048x2048, .f32⟩
  | 12 => ⟨S4x2048x2048, .f32⟩
  | 13 => ⟨S4x2048x2048, .f32⟩
  | 14 => ⟨S_, .f32⟩
  | 15 => ⟨S4x2048, .f32⟩
  | 16 => ⟨S4x2048x1, .f32⟩
  | 17 => ⟨S4x2048x1, .f32⟩
  | 18 => ⟨S4x2048x1, .f32⟩
  | 19 => ⟨S4x2048x2048, .f32⟩
  | 20 => ⟨S4x2048x2048, .f32⟩
  | 21 => ⟨S_, .f32⟩
  | 22 => ⟨S4x2048, .f32⟩
  | 23 => ⟨S4x1x2048, .f32⟩
  | 24 => ⟨S4x1x2048, .f32⟩
  | 25 => ⟨S_, .f32⟩
  | 26 => ⟨S4x1x2048, .f32⟩
  | 27 => ⟨S4x1x2048, .i1⟩
  | 28 => ⟨S_, .f32⟩
  | 29 => ⟨S_, .f32⟩
  | 30 => ⟨S4x1x2048, .f32⟩
  | 31 => ⟨S4x1x2048, .f32⟩
  | 32 => ⟨S4x2048x2048, .f32⟩
  | 33 => ⟨S4x2048x2048, .f32⟩
  | 34 => ⟨S4x2048x2048, .f32⟩
  | 35 => ⟨S_, .f32⟩
  | 36 => ⟨S4x2048, .f32⟩
  | 37 => ⟨S4x1x2048, .f32⟩
  | 38 => ⟨S4x1x2048, .f32⟩
  | 39 => ⟨S4x1x2048, .f32⟩
  | 40 => ⟨S4x2048x2048, .f32⟩
  | 41 => ⟨S4x2048x2048, .f32⟩
  | 42 => ⟨S_, .f32⟩
  | 43 => ⟨S4x2048, .f32⟩
  | 44 => ⟨S4x2048x1, .f32⟩
  | 45 => ⟨S4x2048x1, .f32⟩
  | 46 => ⟨S_, .f32⟩
  | 47 => ⟨S4x2048x1, .f32⟩
  | 48 => ⟨S4x2048x1, .i1⟩
  | 49 => ⟨S_, .f32⟩
  | 50 => ⟨S_, .f32⟩
  | 51 => ⟨S4x2048x1, .f32⟩
  | 52 => ⟨S4x2048x1, .f32⟩
  | 53 => ⟨S4x2048x2048, .f32⟩
  | 54 => ⟨S4x2048x2048, .f32⟩
  | 55 => ⟨S4x2048x2048, .f32⟩
  | 56 => ⟨S_, .f32⟩
  | 57 => ⟨S4x2048, .f32⟩
  | 58 => ⟨S4x2048x1, .f32⟩
  | 59 => ⟨S4x2048x1, .f32⟩
  | 60 => ⟨S4x2048x1, .f32⟩
  | 61 => ⟨S4x2048x2048, .f32⟩
  | 62 => ⟨S4x2048x2048, .f32⟩
  | 63 => ⟨S_, .f32⟩
  | 64 => ⟨S4x2048, .f32⟩
  | 65 => ⟨S4x1x2048, .f32⟩
  | 66 => ⟨S4x1x2048, .f32⟩
  | 67 => ⟨S_, .f32⟩
  | 68 => ⟨S4x1x2048, .f32⟩
  | 69 => ⟨S4x1x2048, .i1⟩
  | 70 => ⟨S_, .f32⟩
  | 71 => ⟨S_, .f32⟩
  | 72 => ⟨S4x1x2048, .f32⟩
  | 73 => ⟨S4x1x2048, .f32⟩
  | 74 => ⟨S4x2048x2048, .f32⟩
  | 75 => ⟨S4x2048x2048, .f32⟩
  | 76 => ⟨S4x2048x2048, .f32⟩
  | 77 => ⟨S_, .f32⟩
  | 78 => ⟨S4x2048, .f32⟩
  | 79 => ⟨S4x1x2048, .f32⟩
  | 80 => ⟨S4x1x2048, .f32⟩
  | 81 => ⟨S4x1x2048, .f32⟩
  | 82 => ⟨S4x2048x2048, .f32⟩
  | 83 => ⟨S4x2048x2048, .f32⟩
  | 84 => ⟨S_, .f32⟩
  | 85 => ⟨S4x2048, .f32⟩
  | 86 => ⟨S4x2048x1, .f32⟩
  | 87 => ⟨S4x2048x1, .f32⟩
  | 88 => ⟨S_, .f32⟩
  | 89 => ⟨S4x2048x1, .f32⟩
  | 90 => ⟨S4x2048x1, .i1⟩
  | 91 => ⟨S_, .f32⟩
  | 92 => ⟨S_, .f32⟩
  | 93 => ⟨S4x2048x1, .f32⟩
  | 94 => ⟨S4x2048x1, .f32⟩
  | 95 => ⟨S4x2048x2048, .f32⟩
  | 96 => ⟨S4x2048x2048, .f32⟩
  | 97 => ⟨S4x2048x2048, .f32⟩
  | 98 => ⟨S_, .f32⟩
  | 99 => ⟨S4x2048, .f32⟩
  | 100 => ⟨S4x2048x1, .f32⟩
  | 101 => ⟨S4x2048x1, .f32⟩
  | 102 => ⟨S4x2048x1, .f32⟩
  | 103 => ⟨S4x2048x2048, .f32⟩
  | 104 => ⟨S4x2048x2048, .f32⟩
  | 105 => ⟨S_, .f32⟩
  | 106 => ⟨S4x2048, .f32⟩
  | 107 => ⟨S4x1x2048, .f32⟩
  | 108 => ⟨S4x1x2048, .f32⟩
  | 109 => ⟨S_, .f32⟩
  | 110 => ⟨S4x1x2048, .f32⟩
  | 111 => ⟨S4x1x2048, .i1⟩
  | 112 => ⟨S_, .f32⟩
  | 113 => ⟨S_, .f32⟩
  | 114 => ⟨S4x1x2048, .f32⟩
  | 115 => ⟨S4x1x2048, .f32⟩
  | 116 => ⟨S4x2048x2048, .f32⟩
  | 117 => ⟨S4x2048x2048, .f32⟩
  | 118 => ⟨S4x2048x2048, .f32⟩
  | 119 => ⟨S_, .f32⟩
  | 120 => ⟨S4x2048, .f32⟩
  | 121 => ⟨S4x1x2048, .f32⟩
  | 122 => ⟨S4x1x2048, .f32⟩
  | 123 => ⟨S4x1x2048, .f32⟩
  | 124 => ⟨S4x2048x2048, .f32⟩
  | 125 => ⟨S4x2048x2048, .f32⟩
  | 126 => ⟨S_, .f32⟩
  | 127 => ⟨S4x2048, .f32⟩
  | _ => ⟨S4x2048x2048, .f32⟩

abbrev hbmTy0_3 (i : Nat) : BufTy := match i % 128 with
  | 0 => ⟨S4x2048x1, .f32⟩
  | 1 => ⟨S4x2048x1, .f32⟩
  | 2 => ⟨S_, .f32⟩
  | 3 => ⟨S4x2048x1, .f32⟩
  | 4 => ⟨S4x2048x1, .i1⟩
  | 5 => ⟨S_, .f32⟩
  | 6 => ⟨S_, .f32⟩
  | 7 => ⟨S4x2048x1, .f32⟩
  | 8 => ⟨S4x2048x1, .f32⟩
  | 9 => ⟨S4x2048x2048, .f32⟩
  | 10 => ⟨S4x2048x2048, .f32⟩
  | 11 => ⟨S4x2048x2048, .f32⟩
  | 12 => ⟨S_, .f32⟩
  | 13 => ⟨S4x2048, .f32⟩
  | 14 => ⟨S4x2048x1, .f32⟩
  | 15 => ⟨S4x2048x1, .f32⟩
  | 16 => ⟨S4x2048x1, .f32⟩
  | 17 => ⟨S4x2048x2048, .f32⟩
  | 18 => ⟨S4x2048x2048, .f32⟩
  | 19 => ⟨S_, .f32⟩
  | 20 => ⟨S4x2048, .f32⟩
  | 21 => ⟨S4x1x2048, .f32⟩
  | 22 => ⟨S4x1x2048, .f32⟩
  | 23 => ⟨S_, .f32⟩
  | 24 => ⟨S4x1x2048, .f32⟩
  | 25 => ⟨S4x1x2048, .i1⟩
  | 26 => ⟨S_, .f32⟩
  | 27 => ⟨S_, .f32⟩
  | 28 => ⟨S4x1x2048, .f32⟩
  | 29 => ⟨S4x1x2048, .f32⟩
  | 30 => ⟨S4x2048x2048, .f32⟩
  | 31 => ⟨S4x2048x2048, .f32⟩
  | 32 => ⟨S4x2048x2048, .f32⟩
  | 33 => ⟨S_, .f32⟩
  | 34 => ⟨S4x2048, .f32⟩
  | 35 => ⟨S4x1x2048, .f32⟩
  | 36 => ⟨S4x1x2048, .f32⟩
  | 37 => ⟨S4x1x2048, .f32⟩
  | 38 => ⟨S4x2048x2048, .f32⟩
  | 39 => ⟨S4x2048x2048, .f32⟩
  | 40 => ⟨S4x2048x2048, .f32⟩
  | _ => ⟨S4x2048x2048, .f32⟩

abbrev hbmTy (i : Nat) : BufTy := match i / 128 with
  | 0 => hbmTy0_0 i
  | 1 => hbmTy0_1 i
  | 2 => hbmTy0_2 i
  | 3 => hbmTy0_3 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_call2_v0 : Ref sig .tc := ⟨.hbm, 54, rfl⟩
abbrev main_call2_v1 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩
abbrev main_v51 : Ref sig .tc := ⟨.hbm, 73, rfl⟩
abbrev main_cst_14 : Ref sig .tc := ⟨.hbm, 74, rfl⟩
abbrev main_call3_v0 : Ref sig .tc := ⟨.hbm, 75, rfl⟩
abbrev main_call3_v1 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_15 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_16 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_17 : Ref sig .tc := ⟨.hbm, 92, rfl⟩
abbrev main_v65 : Ref sig .tc := ⟨.hbm, 93, rfl⟩
abbrev main_v66 : Ref sig .tc := ⟨.hbm, 94, rfl⟩
abbrev main_cst_18 : Ref sig .tc := ⟨.hbm, 95, rfl⟩
abbrev main_call4_v0 : Ref sig .tc := ⟨.hbm, 96, rfl⟩
abbrev main_call4_v1 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_19 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_20 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_21 : Ref sig .tc := ⟨.hbm, 113, rfl⟩
abbrev main_v80 : Ref sig .tc := ⟨.hbm, 114, rfl⟩
abbrev main_v81 : Ref sig .tc := ⟨.hbm, 115, rfl⟩
abbrev main_cst_22 : Ref sig .tc := ⟨.hbm, 116, rfl⟩
abbrev main_call5_v0 : Ref sig .tc := ⟨.hbm, 117, rfl⟩
abbrev main_call5_v1 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_23 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_24 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_25 : Ref sig .tc := ⟨.hbm, 134, rfl⟩
abbrev main_v95 : Ref sig .tc := ⟨.hbm, 135, rfl⟩
abbrev main_v96 : Ref sig .tc := ⟨.hbm, 136, rfl⟩
abbrev main_cst_26 : Ref sig .tc := ⟨.hbm, 137, rfl⟩
abbrev main_call6_v0 : Ref sig .tc := ⟨.hbm, 138, rfl⟩
abbrev main_call6_v1 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_27 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_28 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_29 : Ref sig .tc := ⟨.hbm, 155, rfl⟩
abbrev main_v110 : Ref sig .tc := ⟨.hbm, 156, rfl⟩
abbrev main_v111 : Ref sig .tc := ⟨.hbm, 157, rfl⟩
abbrev main_cst_30 : Ref sig .tc := ⟨.hbm, 158, rfl⟩
abbrev main_call7_v0 : Ref sig .tc := ⟨.hbm, 159, rfl⟩
abbrev main_call7_v1 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_31 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_32 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_33 : Ref sig .tc := ⟨.hbm, 176, rfl⟩
abbrev main_v125 : Ref sig .tc := ⟨.hbm, 177, rfl⟩
abbrev main_v126 : Ref sig .tc := ⟨.hbm, 178, rfl⟩
abbrev main_cst_34 : Ref sig .tc := ⟨.hbm, 179, rfl⟩
abbrev main_call8_v0 : Ref sig .tc := ⟨.hbm, 180, rfl⟩
abbrev main_call8_v1 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_35 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_cst_36 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_37 : Ref sig .tc := ⟨.hbm, 197, rfl⟩
abbrev main_v140 : Ref sig .tc := ⟨.hbm, 198, rfl⟩
abbrev main_v141 : Ref sig .tc := ⟨.hbm, 199, rfl⟩
abbrev main_cst_38 : Ref sig .tc := ⟨.hbm, 200, rfl⟩
abbrev main_call9_v0 : Ref sig .tc := ⟨.hbm, 201, rfl⟩
abbrev main_call9_v1 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_cst_39 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_40 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_cst_41 : Ref sig .tc := ⟨.hbm, 218, rfl⟩
abbrev main_v155 : Ref sig .tc := ⟨.hbm, 219, rfl⟩
abbrev main_v156 : Ref sig .tc := ⟨.hbm, 220, rfl⟩
abbrev main_cst_42 : Ref sig .tc := ⟨.hbm, 221, rfl⟩
abbrev main_call10_v0 : Ref sig .tc := ⟨.hbm, 222, rfl⟩
abbrev main_call10_v1 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_cst_43 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_cst_44 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_cst_45 : Ref sig .tc := ⟨.hbm, 239, rfl⟩
abbrev main_v170 : Ref sig .tc := ⟨.hbm, 240, rfl⟩
abbrev main_v171 : Ref sig .tc := ⟨.hbm, 241, rfl⟩
abbrev main_cst_46 : Ref sig .tc := ⟨.hbm, 242, rfl⟩
abbrev main_call11_v0 : Ref sig .tc := ⟨.hbm, 243, rfl⟩
abbrev main_call11_v1 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_cst_47 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_cst_48 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_cst_49 : Ref sig .tc := ⟨.hbm, 260, rfl⟩
abbrev main_v185 : Ref sig .tc := ⟨.hbm, 261, rfl⟩
abbrev main_v186 : Ref sig .tc := ⟨.hbm, 262, rfl⟩
abbrev main_cst_50 : Ref sig .tc := ⟨.hbm, 263, rfl⟩
abbrev main_call12_v0 : Ref sig .tc := ⟨.hbm, 264, rfl⟩
abbrev main_call12_v1 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_cst_51 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_cst_52 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_cst_53 : Ref sig .tc := ⟨.hbm, 281, rfl⟩
abbrev main_v200 : Ref sig .tc := ⟨.hbm, 282, rfl⟩
abbrev main_v201 : Ref sig .tc := ⟨.hbm, 283, rfl⟩
abbrev main_cst_54 : Ref sig .tc := ⟨.hbm, 284, rfl⟩
abbrev main_call13_v0 : Ref sig .tc := ⟨.hbm, 285, rfl⟩
abbrev main_call13_v1 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_cst_55 : Ref sig .tc := ⟨.hbm, 291, rfl⟩
abbrev main_v206 : Ref sig .tc := ⟨.hbm, 292, rfl⟩
abbrev main_v207 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_cst_56 : Ref sig .tc := ⟨.hbm, 298, rfl⟩
abbrev main_v212 : Ref sig .tc := ⟨.hbm, 299, rfl⟩
abbrev main_v213 : Ref sig .tc := ⟨.hbm, 300, rfl⟩
abbrev main_v214 : Ref sig .tc := ⟨.hbm, 301, rfl⟩
abbrev main_cst_57 : Ref sig .tc := ⟨.hbm, 302, rfl⟩
abbrev main_v215 : Ref sig .tc := ⟨.hbm, 303, rfl⟩
abbrev main_v216 : Ref sig .tc := ⟨.hbm, 304, rfl⟩
abbrev main_cst_58 : Ref sig .tc := ⟨.hbm, 305, rfl⟩
abbrev main_call14_v0 : Ref sig .tc := ⟨.hbm, 306, rfl⟩
abbrev main_call14_v1 : Ref sig .tc := ⟨.hbm, 307, rfl⟩
abbrev main_v217 : Ref sig .tc := ⟨.hbm, 308, rfl⟩
abbrev main_v218 : Ref sig .tc := ⟨.hbm, 309, rfl⟩
abbrev main_v219 : Ref sig .tc := ⟨.hbm, 310, rfl⟩
abbrev main_v220 : Ref sig .tc := ⟨.hbm, 311, rfl⟩
abbrev main_cst_59 : Ref sig .tc := ⟨.hbm, 312, rfl⟩
abbrev main_v221 : Ref sig .tc := ⟨.hbm, 313, rfl⟩
abbrev main_v222 : Ref sig .tc := ⟨.hbm, 314, rfl⟩
abbrev main_v223 : Ref sig .tc := ⟨.hbm, 315, rfl⟩
abbrev main_v224 : Ref sig .tc := ⟨.hbm, 316, rfl⟩
abbrev main_v225 : Ref sig .tc := ⟨.hbm, 317, rfl⟩
abbrev main_v226 : Ref sig .tc := ⟨.hbm, 318, rfl⟩
abbrev main_cst_60 : Ref sig .tc := ⟨.hbm, 319, rfl⟩
abbrev main_v227 : Ref sig .tc := ⟨.hbm, 320, rfl⟩
abbrev main_v228 : Ref sig .tc := ⟨.hbm, 321, rfl⟩
abbrev main_v229 : Ref sig .tc := ⟨.hbm, 322, rfl⟩
abbrev main_cst_61 : Ref sig .tc := ⟨.hbm, 323, rfl⟩
abbrev main_v230 : Ref sig .tc := ⟨.hbm, 324, rfl⟩
abbrev main_v231 : Ref sig .tc := ⟨.hbm, 325, rfl⟩
abbrev main_cst_62 : Ref sig .tc := ⟨.hbm, 326, rfl⟩
abbrev main_call15_v0 : Ref sig .tc := ⟨.hbm, 327, rfl⟩
abbrev main_call15_v1 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_v235 : Ref sig .tc := ⟨.hbm, 332, rfl⟩
abbrev main_cst_63 : Ref sig .tc := ⟨.hbm, 333, rfl⟩
abbrev main_v236 : Ref sig .tc := ⟨.hbm, 334, rfl⟩
abbrev main_v237 : Ref sig .tc := ⟨.hbm, 335, rfl⟩
abbrev main_v238 : Ref sig .tc := ⟨.hbm, 336, rfl⟩
abbrev main_v239 : Ref sig .tc := ⟨.hbm, 337, rfl⟩
abbrev main_v240 : Ref sig .tc := ⟨.hbm, 338, rfl⟩
abbrev main_v241 : Ref sig .tc := ⟨.hbm, 339, rfl⟩
abbrev main_cst_64 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_cst_65 : Ref sig .tc := ⟨.hbm, 344, rfl⟩
abbrev main_v245 : Ref sig .tc := ⟨.hbm, 345, rfl⟩
abbrev main_v246 : Ref sig .tc := ⟨.hbm, 346, rfl⟩
abbrev main_cst_66 : Ref sig .tc := ⟨.hbm, 347, rfl⟩
abbrev main_call16_v0 : Ref sig .tc := ⟨.hbm, 348, rfl⟩
abbrev main_call16_v1 : Ref sig .tc := ⟨.hbm, 349, rfl⟩
abbrev main_v247 : Ref sig .tc := ⟨.hbm, 350, rfl⟩
abbrev main_v248 : Ref sig .tc := ⟨.hbm, 351, rfl⟩
abbrev main_v249 : Ref sig .tc := ⟨.hbm, 352, rfl⟩
abbrev main_v250 : Ref sig .tc := ⟨.hbm, 353, rfl⟩
abbrev main_cst_67 : Ref sig .tc := ⟨.hbm, 354, rfl⟩
abbrev main_v251 : Ref sig .tc := ⟨.hbm, 355, rfl⟩
abbrev main_v252 : Ref sig .tc := ⟨.hbm, 356, rfl⟩
abbrev main_v253 : Ref sig .tc := ⟨.hbm, 357, rfl⟩
abbrev main_v254 : Ref sig .tc := ⟨.hbm, 358, rfl⟩
abbrev main_v255 : Ref sig .tc := ⟨.hbm, 359, rfl⟩
abbrev main_v256 : Ref sig .tc := ⟨.hbm, 360, rfl⟩
abbrev main_cst_68 : Ref sig .tc := ⟨.hbm, 361, rfl⟩
abbrev main_v257 : Ref sig .tc := ⟨.hbm, 362, rfl⟩
abbrev main_v258 : Ref sig .tc := ⟨.hbm, 363, rfl⟩
abbrev main_v259 : Ref sig .tc := ⟨.hbm, 364, rfl⟩
abbrev main_cst_69 : Ref sig .tc := ⟨.hbm, 365, rfl⟩
abbrev main_v260 : Ref sig .tc := ⟨.hbm, 366, rfl⟩
abbrev main_v261 : Ref sig .tc := ⟨.hbm, 367, rfl⟩
abbrev main_cst_70 : Ref sig .tc := ⟨.hbm, 368, rfl⟩
abbrev main_call17_v0 : Ref sig .tc := ⟨.hbm, 369, rfl⟩
abbrev main_call17_v1 : Ref sig .tc := ⟨.hbm, 370, rfl⟩
abbrev main_v262 : Ref sig .tc := ⟨.hbm, 371, rfl⟩
abbrev main_v263 : Ref sig .tc := ⟨.hbm, 372, rfl⟩
abbrev main_v264 : Ref sig .tc := ⟨.hbm, 373, rfl⟩
abbrev main_v265 : Ref sig .tc := ⟨.hbm, 374, rfl⟩
abbrev main_cst_71 : Ref sig .tc := ⟨.hbm, 375, rfl⟩
abbrev main_v266 : Ref sig .tc := ⟨.hbm, 376, rfl⟩
abbrev main_v267 : Ref sig .tc := ⟨.hbm, 377, rfl⟩
abbrev main_v268 : Ref sig .tc := ⟨.hbm, 378, rfl⟩
abbrev main_v269 : Ref sig .tc := ⟨.hbm, 379, rfl⟩
abbrev main_v270 : Ref sig .tc := ⟨.hbm, 380, rfl⟩
abbrev main_v271 : Ref sig .tc := ⟨.hbm, 381, rfl⟩
abbrev main_cst_72 : Ref sig .tc := ⟨.hbm, 382, rfl⟩
abbrev main_v272 : Ref sig .tc := ⟨.hbm, 383, rfl⟩
abbrev main_v273 : Ref sig .tc := ⟨.hbm, 384, rfl⟩
abbrev main_v274 : Ref sig .tc := ⟨.hbm, 385, rfl⟩
abbrev main_cst_73 : Ref sig .tc := ⟨.hbm, 386, rfl⟩
abbrev main_v275 : Ref sig .tc := ⟨.hbm, 387, rfl⟩
abbrev main_v276 : Ref sig .tc := ⟨.hbm, 388, rfl⟩
abbrev main_cst_74 : Ref sig .tc := ⟨.hbm, 389, rfl⟩
abbrev main_call18_v0 : Ref sig .tc := ⟨.hbm, 390, rfl⟩
abbrev main_call18_v1 : Ref sig .tc := ⟨.hbm, 391, rfl⟩
abbrev main_v277 : Ref sig .tc := ⟨.hbm, 392, rfl⟩
abbrev main_v278 : Ref sig .tc := ⟨.hbm, 393, rfl⟩
abbrev main_v279 : Ref sig .tc := ⟨.hbm, 394, rfl⟩
abbrev main_v280 : Ref sig .tc := ⟨.hbm, 395, rfl⟩
abbrev main_cst_75 : Ref sig .tc := ⟨.hbm, 396, rfl⟩
abbrev main_v281 : Ref sig .tc := ⟨.hbm, 397, rfl⟩
abbrev main_v282 : Ref sig .tc := ⟨.hbm, 398, rfl⟩
abbrev main_v283 : Ref sig .tc := ⟨.hbm, 399, rfl⟩
abbrev main_v284 : Ref sig .tc := ⟨.hbm, 400, rfl⟩
abbrev main_v285 : Ref sig .tc := ⟨.hbm, 401, rfl⟩
abbrev main_v286 : Ref sig .tc := ⟨.hbm, 402, rfl⟩
abbrev main_cst_76 : Ref sig .tc := ⟨.hbm, 403, rfl⟩
abbrev main_v287 : Ref sig .tc := ⟨.hbm, 404, rfl⟩
abbrev main_v288 : Ref sig .tc := ⟨.hbm, 405, rfl⟩
abbrev main_v289 : Ref sig .tc := ⟨.hbm, 406, rfl⟩
abbrev main_cst_77 : Ref sig .tc := ⟨.hbm, 407, rfl⟩
abbrev main_v290 : Ref sig .tc := ⟨.hbm, 408, rfl⟩
abbrev main_v291 : Ref sig .tc := ⟨.hbm, 409, rfl⟩
abbrev main_cst_78 : Ref sig .tc := ⟨.hbm, 410, rfl⟩
abbrev main_call19_v0 : Ref sig .tc := ⟨.hbm, 411, rfl⟩
abbrev main_call19_v1 : Ref sig .tc := ⟨.hbm, 412, rfl⟩
abbrev main_v292 : Ref sig .tc := ⟨.hbm, 413, rfl⟩
abbrev main_v293 : Ref sig .tc := ⟨.hbm, 414, rfl⟩
abbrev main_v294 : Ref sig .tc := ⟨.hbm, 415, rfl⟩
abbrev main_v295 : Ref sig .tc := ⟨.hbm, 416, rfl⟩
abbrev main_cst_79 : Ref sig .tc := ⟨.hbm, 417, rfl⟩
abbrev main_v296 : Ref sig .tc := ⟨.hbm, 418, rfl⟩
abbrev main_v297 : Ref sig .tc := ⟨.hbm, 419, rfl⟩
abbrev main_v298 : Ref sig .tc := ⟨.hbm, 420, rfl⟩
abbrev main_v299 : Ref sig .tc := ⟨.hbm, 421, rfl⟩
abbrev main_v300 : Ref sig .tc := ⟨.hbm, 422, rfl⟩
abbrev main_v301 : Ref sig .tc := ⟨.hbm, 423, rfl⟩
abbrev main_v302 : Ref sig .tc := ⟨.hbm, 424, rfl⟩

abbrev nD : Nat := 1
abbrev τ : Topo := Topo.v7x

variable {F : FTy → Type} [FloatOps F]
-- ==== Proof.Base.lean ====
/-
  What the four runs of the body share: the names of the buffers and of the slabs the transfers move, and the
  algebra of the proof.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp
public import Idealize.ShloMosaic.Lib.VecWindow

@[expose] public section

noncomputable section

namespace Cert.KernelIdeal.Sink

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The argument, whole. -/
abbrev tM : Memref sig .tc .hbm S4x2048x2048 .f32 := Memref.whole main_arg0
/-- The result, whole. -/
abbrev oM : Memref sig .tc .hbm S4x2048x2048 .f32 := Memref.whole main_v0
/-- The three matrix buffers and the column of row sums. -/
abbrev kM0 : Memref sig .tc .vmem S2048x2048 .f32 := Memref.whole cc0_scratch0
/-- The second matrix buffer, whole. -/
abbrev kM1 : Memref sig .tc .vmem S2048x2048 .f32 := Memref.whole cc0_scratch1
/-- The third matrix buffer, whole. -/
abbrev kM2 : Memref sig .tc .vmem S2048x2048 .f32 := Memref.whole cc0_scratch2
/-- The column of row sums, whole. -/
abbrev sM : Memref sig .tc .vmem S2048x1 .f32 := Memref.whole cc0_scratch3

/-- The slab of the argument at an offset. -/
abbrev tS (off : Fin S4x2048x2048.rank → ℕ) (h : ∀ a, off a + S1x2048x2048.size a ≤ S4x2048x2048.size a) : Memref sig .tc .hbm S2048x2048 .f32 :=
  (tM.slice (Rect.unit (s := S4x2048x2048) off S1x2048x2048.size h) (fun _ => rfl)).squeeze S2048x2048 squeezes_S1x2048x2048_S2048x2048
/-- The slab of the result at an offset. -/
abbrev oS (off : Fin S4x2048x2048.rank → ℕ) (h : ∀ a, off a + S1x2048x2048.size a ≤ S4x2048x2048.size a) : Memref sig .tc .hbm S2048x2048 .f32 :=
  (oM.slice (Rect.unit (s := S4x2048x2048) off S1x2048x2048.size h) (fun _ => rfl)).squeeze S2048x2048 squeezes_S1x2048x2048_S2048x2048
/-- Matrix 0 lies within the batch. -/
theorem inbS0 : ∀ a, (![0, 0, 0] : Fin S4x2048x2048.rank → ℕ) a + S1x2048x2048.size a ≤ S4x2048x2048.size a := by decide
/-- Matrix 0 of the argument, and of the result. -/
def T0 : Memref sig .tc .hbm S2048x2048 .f32 := tS ![0, 0, 0] inbS0
/-- Matrix 0 of the result. -/
def O0 : Memref sig .tc .hbm S2048x2048 .f32 := oS ![0, 0, 0] inbS0
/-- Matrix 1 lies within the batch. -/
theorem inbS1 : ∀ a, (![1, 0, 0] : Fin S4x2048x2048.rank → ℕ) a + S1x2048x2048.size a ≤ S4x2048x2048.size a := by decide
/-- Matrix 1 of the argument, and of the result. -/
def T1 : Memref sig .tc .hbm S2048x2048 .f32 := tS ![1, 0, 0] inbS1
/-- Matrix 1 of the result. -/
def O1 : Memref sig .tc .hbm S2048x2048 .f32 := oS ![1, 0, 0] inbS1
/-- Matrix 2 lies within the batch. -/
theorem inbS2 : ∀ a, (![2, 0, 0] : Fin S4x2048x2048.rank → ℕ) a + S1x2048x2048.size a ≤ S4x2048x2048.size a := by decide
/-- Matrix 2 of the argument, and of the result. -/
def T2 : Memref sig .tc .hbm S2048x2048 .f32 := tS ![2, 0, 0] inbS2
/-- Matrix 2 of the result. -/
def O2 : Memref sig .tc .hbm S2048x2048 .f32 := oS ![2, 0, 0] inbS2
/-- Matrix 3 lies within the batch. -/
theorem inbS3 : ∀ a, (![3, 0, 0] : Fin S4x2048x2048.rank → ℕ) a + S1x2048x2048.size a ≤ S4x2048x2048.size a := by decide
/-- Matrix 3 of the argument, and of the result. -/
def T3 : Memref sig .tc .hbm S2048x2048 .f32 := tS ![3, 0, 0] inbS3
/-- Matrix 3 of the result. -/
def O3 : Memref sig .tc .hbm S2048x2048 .f32 := oS ![3, 0, 0] inbS3

/-- Slabs of the argument at equal offsets are the same. -/
theorem tS_congr {off off' : Fin S4x2048x2048.rank → ℕ} (e : off = off') (h h' hs) :
    (tM.slice (Rect.unit (s := S4x2048x2048) off S1x2048x2048.size h) hs).squeeze S2048x2048 squeezes_S1x2048x2048_S2048x2048 = tS off' h' :=
  congrArg (fun M : Memref sig .tc .hbm S1x2048x2048 .f32 => M.squeeze S2048x2048 squeezes_S1x2048x2048_S2048x2048) (Memref.slice_unit_congr _ e _ _ _ _)
/-- Slabs of the result at equal offsets are the same. -/
theorem oS_congr {off off' : Fin S4x2048x2048.rank → ℕ} (e : off = off') (h h' hs) :
    (oM.slice (Rect.unit (s := S4x2048x2048) off S1x2048x2048.size h) hs).squeeze S2048x2048 squeezes_S1x2048x2048_S2048x2048 = oS off' h' :=
  congrArg (fun M : Memref sig .tc .hbm S1x2048x2048 .f32 => M.squeeze S2048x2048 squeezes_S1x2048x2048_S2048x2048) (Memref.slice_unit_congr _ e _ _ _ _)

/-! The body's slabs at the four points, under the names above. -/

@[sl_canon] theorem canon0_19 (h hs) : (tM.slice (Rect.unit (s := S4x2048x2048) (k0_off19 (grid0.coords t0_0)) S1x2048x2048.size h) hs).squeeze S2048x2048 squeezes_S1x2048x2048_S2048x2048 = T1 := tS_congr (by decide +kernel) _ _ _
@[sl_canon] theorem canon0_22 (h hs) : (oM.slice (Rect.unit (s := S4x2048x2048) (k0_off22 (grid0.coords t0_0)) S1x2048x2048.size h) hs).squeeze S2048x2048 squeezes_S1x2048x2048_S2048x2048 = O0 := oS_congr (by decide +kernel) _ _ _
@[sl_canon] theorem canon1_31 (h hs) : (tM.slice (Rect.unit (s := S4x2048x2048) (k0_off31 (grid0.coords t0_1)) S1x2048x2048.size h) hs).squeeze S2048x2048 squeezes_S1x2048x2048_S2048x2048 = T2 := tS_congr (by decide +kernel) _ _ _
@[sl_canon] theorem canon1_32 (h hs) : (tM.slice (Rect.unit (s := S4x2048x2048) (k0_off32 (grid0.coords t0_1)) S1x2048x2048.size h) hs).squeeze S2048x2048 squeezes_S1x2048x2048_S2048x2048 = T1 := tS_congr (by decide +kernel) _ _ _
@[sl_canon] theorem canon1_47 (h hs) : (oM.slice (Rect.unit (s := S4x2048x2048) (k0_off47 (grid0.coords t0_1)) S1x2048x2048.size h) hs).squeeze S2048x2048 squeezes_S1x2048x2048_S2048x2048 = O1 := oS_congr (by decide +kernel) _ _ _
@[sl_canon] theorem canon2_55 (h hs) : (oM.slice (Rect.unit (s := S4x2048x2048) (k0_off55 (grid0.coords t0_2)) S1x2048x2048.size h) hs).squeeze S2048x2048 squeezes_S1x2048x2048_S2048x2048 = O0 := oS_congr (by decide +kernel) _ _ _
@[sl_canon] theorem canon2_56 (h hs) : (tM.slice (Rect.unit (s := S4x2048x2048) (k0_off56 (grid0.coords t0_2)) S1x2048x2048.size h) hs).squeeze S2048x2048 squeezes_S1x2048x2048_S2048x2048 = T3 := tS_congr (by decide +kernel) _ _ _
@[sl_canon] theorem canon2_57 (h hs) : (tM.slice (Rect.unit (s := S4x2048x2048) (k0_off57 (grid0.coords t0_2)) S1x2048x2048.size h) hs).squeeze S2048x2048 squeezes_S1x2048x2048_S2048x2048 = T2 := tS_congr (by decide +kernel) _ _ _
@[sl_canon] theorem canon2_72 (h hs) : (oM.slice (Rect.unit (s := S4x2048x2048) (k0_off72 (grid0.coords t0_2)) S1x2048x2048.size h) hs).squeeze S2048x2048 squeezes_S1x2048x2048_S2048x2048 = O2 := oS_congr (by decide +kernel) _ _ _
@[sl_canon] theorem canon3_7 (h hs) : (tM.slice (Rect.unit (s := S4x2048x2048) (k0_off7 (grid0.coords t0_3)) S1x2048x2048.size h) hs).squeeze S2048x2048 squeezes_S1x2048x2048_S2048x2048 = T3 := tS_congr (by decide +kernel) _ _ _
@[sl_canon] theorem canon3_22 (h hs) : (oM.slice (Rect.unit (s := S4x2048x2048) (k0_off22 (grid0.coords t0_3)) S1x2048x2048.size h) hs).squeeze S2048x2048 squeezes_S1x2048x2048_S2048x2048 = O3 := oS_congr (by decide +kernel) _ _ _
@[sl_canon] theorem canon3_23 (h hs) : (oM.slice (Rect.unit (s := S4x2048x2048) (k0_off23 (grid0.coords t0_3)) S1x2048x2048.size h) hs).squeeze S2048x2048 squeezes_S1x2048x2048_S2048x2048 = O1 := oS_congr (by decide +kernel) _ _ _
@[sl_canon] theorem canon3_24 (h hs) : (oM.slice (Rect.unit (s := S4x2048x2048) (k0_off24 (grid0.coords t0_3)) S1x2048x2048.size h) hs).squeeze S2048x2048 squeezes_S1x2048x2048_S2048x2048 = O2 := oS_congr (by decide +kernel) _ _ _
@[sl_canon] theorem canon3_25 (h hs) : (oM.slice (Rect.unit (s := S4x2048x2048) (k0_off25 (grid0.coords t0_3)) S1x2048x2048.size h) hs).squeeze S2048x2048 squeezes_S1x2048x2048_S2048x2048 = O3 := oS_congr (by decide +kernel) _ _ _

/-! Matrix 0 of the argument comes in four transfers, one for each row block. -/

/-- The row block of the argument's matrix 0 at an offset. -/
abbrev cS (off : Fin S4x2048x2048.rank → ℕ) (h : ∀ a, off a + S1x512x2048.size a ≤ S4x2048x2048.size a) : Memref sig .tc .hbm S512x2048 .f32 :=
  (tM.slice (Rect.unit (s := S4x2048x2048) off S1x512x2048.size h) (fun _ => rfl)).squeeze S512x2048 squeezes_S1x512x2048_S512x2048
/-- Row block `r` of matrix 0 lies within the batch. -/
theorem inbC (r : Fin 4) : ∀ a, (![0, 512 * r.val, 0] : Fin S4x2048x2048.rank → ℕ) a + S1x512x2048.size a ≤ S4x2048x2048.size a := by revert r; decide
/-- Row block `r` of the argument's matrix 0. -/
def C0 : Memref sig .tc .hbm S512x2048 .f32 := cS ![0, 0, 0] (inbC 0)
/-- Row block 1 of the argument's matrix 0. -/
def C1 : Memref sig .tc .hbm S512x2048 .f32 := cS ![0, 512, 0] (inbC 1)
/-- Row block 2 of the argument's matrix 0. -/
def C2 : Memref sig .tc .hbm S512x2048 .f32 := cS ![0, 1024, 0] (inbC 2)
/-- Row block 3 of the argument's matrix 0. -/
def C3 : Memref sig .tc .hbm S512x2048 .f32 := cS ![0, 1536, 0] (inbC 3)
/-- Row blocks of the argument at equal offsets are the same. -/
theorem cS_congr {off off' : Fin S4x2048x2048.rank → ℕ} (e : off = off') (h h' hs) :
    (tM.slice (Rect.unit (s := S4x2048x2048) off S1x512x2048.size h) hs).squeeze S512x2048 squeezes_S1x512x2048_S512x2048 = cS off' h' :=
  congrArg (fun M : Memref sig .tc .hbm S1x512x2048 .f32 => M.squeeze S512x2048 squeezes_S1x512x2048_S512x2048) (Memref.slice_unit_congr _ e _ _ _ _)
@[sl_canon] theorem canon0_1 (h hs) : (tM.slice (Rect.unit (s := S4x2048x2048) (k0_off1 (grid0.coords t0_0)) S1x512x2048.size h) hs).squeeze S512x2048 squeezes_S1x512x2048_S512x2048 = C0 := cS_congr (by decide +kernel) _ _ _
@[sl_canon] theorem canon0_9 (h hs) : (tM.slice (Rect.unit (s := S4x2048x2048) (k0_off9 (grid0.coords t0_0)) S1x512x2048.size h) hs).squeeze S512x2048 squeezes_S1x512x2048_S512x2048 = C0 := cS_congr (by decide +kernel) _ _ _
@[sl_canon] theorem canon0_2 (h hs) : (tM.slice (Rect.unit (s := S4x2048x2048) (k0_off2 (grid0.coords t0_0)) S1x512x2048.size h) hs).squeeze S512x2048 squeezes_S1x512x2048_S512x2048 = C1 := cS_congr (by decide +kernel) _ _ _
@[sl_canon] theorem canon0_13 (h hs) : (tM.slice (Rect.unit (s := S4x2048x2048) (k0_off13 (grid0.coords t0_0)) S1x512x2048.size h) hs).squeeze S512x2048 squeezes_S1x512x2048_S512x2048 = C1 := cS_congr (by decide +kernel) _ _ _
@[sl_canon] theorem canon0_3 (h hs) : (tM.slice (Rect.unit (s := S4x2048x2048) (k0_off3 (grid0.coords t0_0)) S1x512x2048.size h) hs).squeeze S512x2048 squeezes_S1x512x2048_S512x2048 = C2 := cS_congr (by decide +kernel) _ _ _
@[sl_canon] theorem canon0_15 (h hs) : (tM.slice (Rect.unit (s := S4x2048x2048) (k0_off15 (grid0.coords t0_0)) S1x512x2048.size h) hs).squeeze S512x2048 squeezes_S1x512x2048_S512x2048 = C2 := cS_congr (by decide +kernel) _ _ _
@[sl_canon] theorem canon0_4 (h hs) : (tM.slice (Rect.unit (s := S4x2048x2048) (k0_off4 (grid0.coords t0_0)) S1x512x2048.size h) hs).squeeze S512x2048 squeezes_S1x512x2048_S512x2048 = C3 := cS_congr (by decide +kernel) _ _ _
@[sl_canon] theorem canon0_17 (h hs) : (tM.slice (Rect.unit (s := S4x2048x2048) (k0_off17 (grid0.coords t0_0)) S1x512x2048.size h) hs).squeeze S512x2048 squeezes_S1x512x2048_S512x2048 = C3 := cS_congr (by decide +kernel) _ _ _

end Cert.KernelIdeal.Sink
-- ==== Proof.Values.lean ====
/-
  What the body computes from one matrix, as functions of values: the matrix cut into four row blocks, each step of
  the iteration on the blocks, and the whole in terms of the four blocks' results.
-/
module

public import proofs.«01_k».proof.Proof.Base

@[expose] public section

noncomputable section

namespace Cert.KernelIdeal.Sink

open Cert.KernelIdeal Cert.KernelIdeal.Gen
open Idealize.ShloMosaic Idealize.ShloMosaic.TcCoe Idealize.ShloMosaic.Tactic
open Idealize.SL Idealize.SL.Sem

section Cut
variable {α : Type}

/-- The four row blocks' rectangles in a matrix, and in a column. -/
abbrev RK (o : ℕ) (h : ∀ a, (![o, 0] : Fin S2048x2048.rank → ℕ) a + S512x2048.size a ≤ S2048x2048.size a) : Rect S2048x2048 := Rect.unit (s := S2048x2048) ![o, 0] S512x2048.size h
/-- A row block's rectangle in a column. -/
abbrev RC (o : ℕ) (h : ∀ a, (![o, 0] : Fin S2048x1.rank → ℕ) a + S512x1.size a ≤ S2048x1.size a) : Rect S2048x1 := Rect.unit (s := S2048x1) ![o, 0] S512x1.size h
/-- Row block `r` lies within a matrix. -/
theorem hK (r : Fin 4) : ∀ a, (![512 * r.val, 0] : Fin S2048x2048.rank → ℕ) a + S512x2048.size a ≤ S2048x2048.size a := by revert r; decide
/-- Row block `r` lies within a column. -/
theorem hC (r : Fin 4) : ∀ a, (![512 * r.val, 0] : Fin S2048x1.rank → ℕ) a + S512x1.size a ≤ S2048x1.size a := by revert r; decide

/-- Row block `r` of a matrix, and of a column. -/
def blk (r : Fin 4) (X : S2048x2048.Idx → α) : S512x2048.Idx → α := fun y => X ((RK (512 * r.val) (hK r)).emb y)
/-- Row block `r` of a column. -/
def blkC (r : Fin 4) (X : S2048x1.Idx → α) : S512x1.Idx → α := fun y => X ((RC (512 * r.val) (hC r)).emb y)

/-- The block a row lies in, and the row's place in it. -/
def rowBlk (y : S2048x2048.Idx) : Fin 4 := ⟨(y 0).val / 512, by have h : (y 0).val < 2048 := (y 0).isLt; omega⟩
/-- An element's place in its row block. -/
def inBlk (y : S2048x2048.Idx) : S512x2048.Idx :=
  fun a => Fin.cases (motive := fun a => Fin (S512x2048.size a)) ⟨(y 0).val % 512, Nat.mod_lt _ (by decide)⟩ (fun b => Fin.cases (motive := fun b => Fin (S512x2048.size b.succ)) (y 1) (fun c => c.elim0) b) a
/-- The block an element of a column lies in. -/
def rowBlkC (y : S2048x1.Idx) : Fin 4 := ⟨(y 0).val / 512, by have h : (y 0).val < 2048 := (y 0).isLt; omega⟩
/-- An element's place in its block of a column. -/
def inBlkC (y : S2048x1.Idx) : S512x1.Idx :=
  fun a => Fin.cases (motive := fun a => Fin (S512x1.size a)) ⟨(y 0).val % 512, Nat.mod_lt _ (by decide)⟩ (fun b => Fin.cases (motive := fun b => Fin (S512x1.size b.succ)) (y 1) (fun c => c.elim0) b) a

/-- The matrix, and the column, of four row blocks. -/
def glue (p : Fin 4 → S512x2048.Idx → α) : S2048x2048.Idx → α := fun y => p (rowBlk y) (inBlk y)
/-- The column of four row blocks. -/
def glueC (p : Fin 4 → S512x1.Idx → α) : S2048x1.Idx → α := fun y => p (rowBlkC y) (inBlkC y)

/-- The row of a block's element in the matrix. -/
theorem emb0 (r : Fin 4) (x : S512x2048.Idx) : ((RK (512 * r.val) (hK r)).emb x 0).val = 512 * r.val + (x 0).val := by
  rw [Rect.emb_apply]; simp [Rect.unit]
/-- The column of a block's element in the matrix. -/
theorem emb1 (r : Fin 4) (x : S512x2048.Idx) : ((RK (512 * r.val) (hK r)).emb x 1).val = (x 1).val := by
  rw [Rect.emb_apply]; simp [Rect.unit]
/-- The row of a block's element in a column. -/
theorem embC0 (r : Fin 4) (x : S512x1.Idx) : ((RC (512 * r.val) (hC r)).emb x 0).val = 512 * r.val + (x 0).val := by
  rw [Rect.emb_apply]; simp [Rect.unit]
/-- The second coordinate of a block's element in a column. -/
theorem embC1 (r : Fin 4) (x : S512x1.Idx) : ((RC (512 * r.val) (hC r)).emb x 1).val = (x 1).val := by
  rw [Rect.emb_apply]; simp [Rect.unit]

/-- Block `r` of the matrix of four blocks is the `r`-th. -/
theorem glue_emb (p : Fin 4 → S512x2048.Idx → α) (r : Fin 4) (x : S512x2048.Idx) : glue p ((RK (512 * r.val) (hK r)).emb x) = p r x := by
  have h0 := emb0 r x
  have h1 := emb1 r x
  have hx : (x 0).val < 512 := (x 0).isLt
  have hb : rowBlk ((RK (512 * r.val) (hK r)).emb x) = r := Fin.ext (by show _ / 512 = _; rw [h0]; omega)
  have hi : inBlk ((RK (512 * r.val) (hK r)).emb x) = x := by
    funext a
    refine Fin.ext ?_
    match a with
    | ⟨0, _⟩ => show _ % 512 = _; rw [h0]; show (512 * r.val + (x 0).val) % 512 = (x 0).val; omega
    | ⟨1, _⟩ => exact h1
  show p _ _ = _
  rw [hb, hi]
/-- Block `r` of the column of four blocks is the `r`-th, at an index. -/
theorem glueC_emb (p : Fin 4 → S512x1.Idx → α) (r : Fin 4) (x : S512x1.Idx) : glueC p ((RC (512 * r.val) (hC r)).emb x) = p r x := by
  have h0 := embC0 r x
  have h1 := embC1 r x
  have hx : (x 0).val < 512 := (x 0).isLt
  have hb : rowBlkC ((RC (512 * r.val) (hC r)).emb x) = r := Fin.ext (by show _ / 512 = _; rw [h0]; omega)
  have hi : inBlkC ((RC (512 * r.val) (hC r)).emb x) = x := by
    funext a
    refine Fin.ext ?_
    match a with
    | ⟨0, _⟩ => show _ % 512 = _; rw [h0]; show (512 * r.val + (x 0).val) % 512 = (x 0).val; omega
    | ⟨1, _⟩ => exact h1
  show p _ _ = _
  rw [hb, hi]
/-- Cutting a matrix of four row blocks gives them back. -/
theorem blk_glue (p : Fin 4 → S512x2048.Idx → α) (r : Fin 4) : blk r (glue p) = p r := funext fun x => glue_emb p r x
/-- Cutting a column of four row blocks gives them back. -/
theorem blkC_glueC (p : Fin 4 → S512x1.Idx → α) (r : Fin 4) : blkC r (glueC p) = p r := funext fun x => glueC_emb p r x
/-- Every element of a matrix lies in its row's block. -/
theorem emb_inBlk (y : S2048x2048.Idx) : (RK (512 * (rowBlk y).val) (hK (rowBlk y))).emb (inBlk y) = y := by
  funext a
  refine Fin.ext ?_
  match a with
  | ⟨0, _⟩ =>
    refine (emb0 _ _).trans ?_
    show 512 * ((y 0).val / 512) + (y 0).val % 512 = (y 0).val
    omega
  | ⟨1, _⟩ => exact emb1 _ _
/-- Every element of a column lies in its row's block. -/
theorem embC_inBlk (y : S2048x1.Idx) : (RC (512 * (rowBlkC y).val) (hC (rowBlkC y))).emb (inBlkC y) = y := by
  funext a
  refine Fin.ext ?_
  match a with
  | ⟨0, _⟩ =>
    refine (embC0 _ _).trans ?_
    show 512 * ((y 0).val / 512) + (y 0).val % 512 = (y 0).val
    omega
  | ⟨1, _⟩ => exact embC1 _ _
end Cut

variable {F : FTy → Type} [FloatOps F]

/-! ## The iteration on one matrix -/

/-- The exponentials of a matrix, block by block. -/
def expK (X : S2048x2048.Idx → Elt F .f32) : S2048x2048.Idx → Elt F .f32 := glue fun r => k0_pay11 (F := F) (blk r X)
/-- The row sums as the body first stores them. -/
def rowS0 (X : S2048x2048.Idx → Elt F .f32) : S2048x1.Idx → Elt F .f32 := glueC fun r => k0_pay13 (F := F) (blk r X)
/-- The first row of reciprocal column sums. -/
def v0 (X : S2048x2048.Idx → Elt F .f32) : FVec F S1x2048 .f32 :=
  k0_pay28 (k0_pay23 (k0_pay18 (k0_pay9 (F := F)) (k0_pay10 (blk 0 X)) (k0_pay12 (blk 0 X)) (blk 1 X)) (blk 2 X)) (k0_pay24 (blk 3 X))
/-- The row sums of the matrix scaled by a row. -/
def rowS (K : S2048x2048.Idx → Elt F .f32) (v : FVec F S1x2048 .f32) : S2048x1.Idx → Elt F .f32 := glueC fun r => k0_pay5 (F := F) v (blk r K)
/-- One step's row of reciprocal column sums. -/
def vstep (K : S2048x2048.Idx → Elt F .f32) (v : FVec F S1x2048 .f32) : FVec F S1x2048 .f32 :=
  k0_pay33 v (k0_pay8 (k0_pay9 (F := F)) v (blk 0 K) (blk 1 K)) (blk 2 K) (blk 3 K)
/-- The row after `k` steps. -/
def vN (K : S2048x2048.Idx → Elt F .f32) (v : FVec F S1x2048 .f32) : ℕ → FVec F S1x2048 .f32
  | 0 => v
  | k + 1 => vstep K (vN K v k)
/-- The matrix the body leaves, from the row sums and the row it last computed. -/
def scaleK (K : S2048x2048.Idx → Elt F .f32) (s : S2048x1.Idx → Elt F .f32) (v : FVec F S1x2048 .f32) : S2048x2048.Idx → Elt F .f32 :=
  glue fun r => k0_pay36 (F := F) v (blkC r s) (blk r K)
/-- What the body leaves of a matrix. -/
def final (X : S2048x2048.Idx → Elt F .f32) : S2048x2048.Idx → Elt F .f32 :=
  scaleK (expK X) (rowS (expK X) (vN (expK X) (v0 X) 8)) (vN (expK X) (v0 X) 9)

end Cert.KernelIdeal.Sink
-- ==== Proof.Contents.lean ====
/-
  What a buffer holds after the body's stores of its four row blocks, and what a load of one row block reads: the
  runs' contents in terms of the functions of `Values`.
-/
module

public import proofs.«01_k».proof.Proof.Values

@[expose] public section

noncomputable section

namespace Cert.KernelIdeal.Sink

open Cert.KernelIdeal Cert.KernelIdeal.Gen
open Idealize.ShloMosaic Idealize.ShloMosaic.TcCoe Idealize.ShloMosaic.Tactic
open Idealize.SL Idealize.SL.Sem

variable {F : FTy → Type} [FloatOps F]

/-- Two contents of a matrix buffer, or of the column's, that read alike are equal. -/
theorem of_read0 {f g : kM0.view.ty.Contents (Elt F)} (h : kM0.view.read (Elt F) f = kM0.view.read (Elt F) g) : f = g := h
/-- The same for the second matrix buffer. -/
theorem of_read1 {f g : kM1.view.ty.Contents (Elt F)} (h : kM1.view.read (Elt F) f = kM1.view.read (Elt F) g) : f = g := h
/-- The same for the third matrix buffer. -/
theorem of_read2 {f g : kM2.view.ty.Contents (Elt F)} (h : kM2.view.read (Elt F) f = kM2.view.read (Elt F) g) : f = g := h
/-- The same for the column of row sums. -/
theorem of_readS {f g : sM.view.ty.Contents (Elt F)} (h : sM.view.read (Elt F) f = sM.view.read (Elt F) g) : f = g := h

/-- An element of a matrix lies in the rectangle of its row block. -/
theorem mem_blk (r : Fin 4) {o : ℕ} (ho : o = 512 * r.val) (h) (y : S2048x2048.Idx) (hy : rowBlk y = r) : y ∈ (RK o h).set := by
  subst ho hy
  rw [← Rect.map_emb_univ]
  exact Finset.mem_map.mpr ⟨inBlk y, Finset.mem_univ _, emb_inBlk y⟩
/-- An element of a column lies in the rectangle of its row block. -/
theorem mem_blkC (r : Fin 4) {o : ℕ} (ho : o = 512 * r.val) (h) (y : S2048x1.Idx) (hy : rowBlkC y = r) : y ∈ (RC o h).set := by
  subst ho hy
  rw [← Rect.map_emb_univ]
  exact Finset.mem_map.mpr ⟨inBlkC y, Finset.mem_univ _, embC_inBlk y⟩

/-- Reading four row blocks written into a matrix. -/
theorem read_blocks {sp : Space} (v : View sig .tc sp S2048x2048 .f32) (f : v.ty.Contents (Elt F)) (P : Fin 4 → S512x2048.Idx → Elt F .f32)
    (h0 h1 h2 h3) :
    v.read (Elt F) (v.writes (Elt F) f [⟨RK 1536 h3, P 3⟩, ⟨RK 1024 h2, P 2⟩, ⟨RK 512 h1, P 1⟩, ⟨RK 0 h0, P 0⟩]) = glue P := by
  funext y
  refine View.read_writes_apply_of_pieces v f (glue P) _ ?_ y ?_
  · intro p hp
    simp only [List.mem_cons, List.not_mem_nil, or_false] at hp
    rcases hp with rfl | rfl | rfl | rfl
    · exact fun x => (glue_emb P 3 x).symm
    · exact fun x => (glue_emb P 2 x).symm
    · exact fun x => (glue_emb P 1 x).symm
    · exact fun x => (glue_emb P 0 x).symm
  · have hy : rowBlk y = 0 ∨ rowBlk y = 1 ∨ rowBlk y = 2 ∨ rowBlk y = 3 := by
      generalize rowBlk y = r; revert r; decide
    rcases hy with hy | hy | hy | hy
    · exact ⟨_, .tail _ (.tail _ (.tail _ (.head _))), mem_blk 0 rfl h0 y hy⟩
    · exact ⟨_, .tail _ (.tail _ (.head _)), mem_blk 1 rfl h1 y hy⟩
    · exact ⟨_, .tail _ (.head _), mem_blk 2 rfl h2 y hy⟩
    · exact ⟨_, .head _, mem_blk 3 rfl h3 y hy⟩

/-- Reading four row blocks written into a column. -/
theorem read_blocksC {sp : Space} (v : View sig .tc sp S2048x1 .f32) (f : v.ty.Contents (Elt F)) (P : Fin 4 → S512x1.Idx → Elt F .f32)
    (h0 h1 h2 h3) :
    v.read (Elt F) (v.writes (Elt F) f [⟨RC 1536 h3, P 3⟩, ⟨RC 1024 h2, P 2⟩, ⟨RC 512 h1, P 1⟩, ⟨RC 0 h0, P 0⟩]) = glueC P := by
  funext y
  refine View.read_writes_apply_of_pieces v f (glueC P) _ ?_ y ?_
  · intro p hp
    simp only [List.mem_cons, List.not_mem_nil, or_false] at hp
    rcases hp with rfl | rfl | rfl | rfl
    · exact fun x => (glueC_emb P 3 x).symm
    · exact fun x => (glueC_emb P 2 x).symm
    · exact fun x => (glueC_emb P 1 x).symm
    · exact fun x => (glueC_emb P 0 x).symm
  · have hy : rowBlkC y = 0 ∨ rowBlkC y = 1 ∨ rowBlkC y = 2 ∨ rowBlkC y = 3 := by
      generalize rowBlkC y = r; revert r; decide
    rcases hy with hy | hy | hy | hy
    · exact ⟨_, .tail _ (.tail _ (.tail _ (.head _))), mem_blkC 0 rfl h0 y hy⟩
    · exact ⟨_, .tail _ (.tail _ (.head _)), mem_blkC 1 rfl h1 y hy⟩
    · exact ⟨_, .tail _ (.head _), mem_blkC 2 rfl h2 y hy⟩
    · exact ⟨_, .head _, mem_blkC 3 rfl h3 y hy⟩

/-- A load of a row block of a buffer that holds a matrix, or a column. -/
theorem ld {sp : Space} (v : View sig .tc sp S2048x2048 .f32) (r : Fin 4) {o : ℕ} (ho : o = 512 * r.val) (h) (X : S2048x2048.Idx → Elt F .f32) :
    v.readAt (Elt F) (RK o h).toLoadRect (v.rep X) = blk r X := by
  subst ho
  rw [View.readAt_rep_unit v X h rfl (hK r)]
  rfl
/-- A load of a row block of a buffer that holds a column. -/
theorem ldC {sp : Space} (v : View sig .tc sp S2048x1 .f32) (r : Fin 4) {o : ℕ} (ho : o = 512 * r.val) (h) (X : S2048x1.Idx → Elt F .f32) :
    v.readAt (Elt F) (RC o h).toLoadRect (v.rep X) = blkC r X := by
  subst ho
  rw [View.readAt_rep_unit v X h rfl (hC r)]
  rfl
/-- A load of row block 0 of a matrix. -/
theorem ld0 {sp : Space} (v : View sig .tc sp S2048x2048 .f32) (h) (X : S2048x2048.Idx → Elt F .f32) :
    v.readAt (Elt F) (Rect.unit (s := S2048x2048) ![0, 0] S512x2048.size h).toLoadRect (v.rep X) = blk 0 X := ld v 0 rfl h X
/-- A load of row block 1 of a matrix. -/
theorem ld1 {sp : Space} (v : View sig .tc sp S2048x2048 .f32) (h) (X : S2048x2048.Idx → Elt F .f32) :
    v.readAt (Elt F) (Rect.unit (s := S2048x2048) ![512, 0] S512x2048.size h).toLoadRect (v.rep X) = blk 1 X := ld v 1 rfl h X
/-- A load of row block 2 of a matrix. -/
theorem ld2 {sp : Space} (v : View sig .tc sp S2048x2048 .f32) (h) (X : S2048x2048.Idx → Elt F .f32) :
    v.readAt (Elt F) (Rect.unit (s := S2048x2048) ![1024, 0] S512x2048.size h).toLoadRect (v.rep X) = blk 2 X := ld v 2 rfl h X
/-- A load of row block 3 of a matrix. -/
theorem ld3 {sp : Space} (v : View sig .tc sp S2048x2048 .f32) (h) (X : S2048x2048.Idx → Elt F .f32) :
    v.readAt (Elt F) (Rect.unit (s := S2048x2048) ![1536, 0] S512x2048.size h).toLoadRect (v.rep X) = blk 3 X := ld v 3 rfl h X
/-- A load of row block 0 of a column. -/
theorem ldC0 {sp : Space} (v : View sig .tc sp S2048x1 .f32) (h) (X : S2048x1.Idx → Elt F .f32) :
    v.readAt (Elt F) (Rect.unit (s := S2048x1) ![0, 0] S512x1.size h).toLoadRect (v.rep X) = blkC 0 X := ldC v 0 rfl h X
/-- A load of row block 1 of a column. -/
theorem ldC1 {sp : Space} (v : View sig .tc sp S2048x1 .f32) (h) (X : S2048x1.Idx → Elt F .f32) :
    v.readAt (Elt F) (Rect.unit (s := S2048x1) ![512, 0] S512x1.size h).toLoadRect (v.rep X) = blkC 1 X := ldC v 1 rfl h X
/-- A load of row block 2 of a column. -/
theorem ldC2 {sp : Space} (v : View sig .tc sp S2048x1 .f32) (h) (X : S2048x1.Idx → Elt F .f32) :
    v.readAt (Elt F) (Rect.unit (s := S2048x1) ![1024, 0] S512x1.size h).toLoadRect (v.rep X) = blkC 2 X := ldC v 2 rfl h X
/-- A load of row block 3 of a column. -/
theorem ldC3 {sp : Space} (v : View sig .tc sp S2048x1 .f32) (h) (X : S2048x1.Idx → Elt F .f32) :
    v.readAt (Elt F) (Rect.unit (s := S2048x1) ![1536, 0] S512x1.size h).toLoadRect (v.rep X) = blkC 3 X := ldC v 3 rfl h X

end Cert.KernelIdeal.Sink
-- ==== Proof.Steps.lean ====
/-
  The body's stores and carried rows, read as the functions of `Values`: the exponentials and the first row before the
  loop, the row sums and the next row in one pass, the scaled matrix at the end. `k` is the matrix buffer a branch
  works in.
-/
module

public import proofs.«01_k».proof.Proof.Contents

@[expose] public section

noncomputable section

namespace Cert.KernelIdeal.Sink

open Cert.KernelIdeal Cert.KernelIdeal.Gen
open Idealize.ShloMosaic Idealize.ShloMosaic.TcCoe Idealize.ShloMosaic.Tactic
open Idealize.SL Idealize.SL.Sem

variable {F : FTy → Type} [FloatOps F]

/-- A memref that is all of its buffer: contents that read alike through it are equal, and its elements are all. -/
structure IsWhole (k : Memref sig .tc .vmem S2048x2048 .f32) : Prop where
  inj : ∀ f g : k.view.ty.Contents (Elt F), k.view.read (Elt F) f = k.view.read (Elt F) g → f = g
  set : k.view.set = Finset.univ
/-- The first matrix buffer is all of its buffer. -/
theorem whole0 : IsWhole (F := F) kM0 := ⟨fun _ _ => of_read0, View.set_whole _⟩
/-- The second matrix buffer is all of its buffer. -/
theorem whole1 : IsWhole (F := F) kM1 := ⟨fun _ _ => of_read1, View.set_whole _⟩
/-- The third matrix buffer is all of its buffer. -/
theorem whole2 : IsWhole (F := F) kM2 := ⟨fun _ _ => of_read2, View.set_whole _⟩

variable {k : Memref sig .tc .vmem S2048x2048 .f32}

/-- The four blocks of exponentials stored before the loop. -/
theorem init_K (hk : IsWhole (F := F) k) (X : S2048x2048.Idx → Elt F .f32) (f) (h0 h1 h2 h3 g0 g1 g2 g3) :
    k.view.writes (Elt F) f [⟨RK 1536 h3, k0_pay25 (F := F) (k.view.readAt (Elt F) (RK 1536 g3).toLoadRect (k.view.rep X))⟩, ⟨RK 1024 h2, k0_pay20 (F := F) (k.view.readAt (Elt F) (RK 1024 g2).toLoadRect (k.view.rep X))⟩, ⟨RK 512 h1, k0_pay15 (F := F) (k.view.readAt (Elt F) (RK 512 g1).toLoadRect (k.view.rep X))⟩, ⟨RK 0 h0, k0_pay11 (F := F) (k.view.readAt (Elt F) (RK 0 g0).toLoadRect (k.view.rep X))⟩] = k.view.rep (expK X) := by
  rw [ld0 k.view g0, ld1 k.view g1, ld2 k.view g2, ld3 k.view g3]
  exact hk.inj _ _ ((read_blocks k.view f (fun r => k0_pay11 (blk r X)) h0 h1 h2 h3).trans (View.read_rep _ _).symm)

/-- The row carried into the loop. -/
theorem init_v (k : Memref sig .tc .vmem S2048x2048 .f32) (X : S2048x2048.Idx → Elt F .f32) (g0 g0' g1 g2 g3) :
    k0_pay28 (F := F) (k0_pay23 (k0_pay18 k0_pay9 (k0_pay10 (k.view.readAt (Elt F) (RK 0 g0).toLoadRect (k.view.rep X))) (k0_pay12 (k.view.readAt (Elt F) (RK 0 g0').toLoadRect (k.view.rep X))) (k.view.readAt (Elt F) (RK 512 g1).toLoadRect (k.view.rep X))) (k.view.readAt (Elt F) (RK 1024 g2).toLoadRect (k.view.rep X))) (k0_pay24 (k.view.readAt (Elt F) (RK 1536 g3).toLoadRect (k.view.rep X))) = v0 X := by
  rw [ld0 k.view g0, ld1 k.view g1, ld2 k.view g2, ld3 k.view g3]
  rfl

/-- The row sums one pass of the loop stores. -/
theorem loop_s (k : Memref sig .tc .vmem S2048x2048 .f32) (K : S2048x2048.Idx → Elt F .f32) (v : FVec F S1x2048 .f32) (f) (h0 h1 h2 h3 g0 g1 g2 g3) :
    sM.view.writes (Elt F) f [⟨RC 1536 h3, k0_pay32 (F := F) v (k.view.readAt (Elt F) (RK 1536 g3).toLoadRect (k.view.rep K))⟩, ⟨RC 1024 h2, k0_pay30 (F := F) v (k.view.readAt (Elt F) (RK 1024 g2).toLoadRect (k.view.rep K))⟩, ⟨RC 512 h1, k0_pay7 (F := F) v (k.view.readAt (Elt F) (RK 512 g1).toLoadRect (k.view.rep K))⟩, ⟨RC 0 h0, k0_pay5 (F := F) v (k.view.readAt (Elt F) (RK 0 g0).toLoadRect (k.view.rep K))⟩] = sM.view.rep (rowS K v) := by
  rw [ld0 k.view g0, ld1 k.view g1, ld2 k.view g2, ld3 k.view g3]
  exact of_readS ((read_blocksC sM.view f (fun r => k0_pay5 v (blk r K)) h0 h1 h2 h3).trans (View.read_rep _ _).symm)

/-- The row one pass of the loop carries on. -/
theorem loop_v (k : Memref sig .tc .vmem S2048x2048 .f32) (K : S2048x2048.Idx → Elt F .f32) (v : FVec F S1x2048 .f32) (g0 g1 g2 g3) :
    k0_pay33 (F := F) v (k0_pay8 k0_pay9 v (k.view.readAt (Elt F) (RK 0 g0).toLoadRect (k.view.rep K)) (k.view.readAt (Elt F) (RK 512 g1).toLoadRect (k.view.rep K))) (k.view.readAt (Elt F) (RK 1024 g2).toLoadRect (k.view.rep K)) (k.view.readAt (Elt F) (RK 1536 g3).toLoadRect (k.view.rep K)) = vstep K v := by
  rw [ld0 k.view g0, ld1 k.view g1, ld2 k.view g2, ld3 k.view g3]
  rfl

/-- The four scaled blocks stored after the loop. -/
theorem last_K (hk : IsWhole (F := F) k) (K : S2048x2048.Idx → Elt F .f32) (s : S2048x1.Idx → Elt F .f32) (v : FVec F S1x2048 .f32) (f) (h0 h1 h2 h3 g0 g1 g2 g3 e0 e1 e2 e3) :
    k.view.writes (Elt F) f [⟨RK 1536 h3, k0_pay1 v (sM.view.readAt (Elt F) (RC 1536 e3).toLoadRect (sM.view.rep s)) (k.view.readAt (Elt F) (RK 1536 g3).toLoadRect (k.view.rep K))⟩, ⟨RK 1024 h2, k0_pay37 v (sM.view.readAt (Elt F) (RC 1024 e2).toLoadRect (sM.view.rep s)) (k.view.readAt (Elt F) (RK 1024 g2).toLoadRect (k.view.rep K))⟩, ⟨RK 512 h1, k0_pay36 v (sM.view.readAt (Elt F) (RC 512 e1).toLoadRect (sM.view.rep s)) (k.view.readAt (Elt F) (RK 512 g1).toLoadRect (k.view.rep K))⟩, ⟨RK 0 h0, k0_pay35 (k0_pay34 v (sM.view.readAt (Elt F) (RC 0 e0).toLoadRect (sM.view.rep s)) (k.view.readAt (Elt F) (RK 0 g0).toLoadRect (k.view.rep K)))⟩] = k.view.rep (scaleK K s v) := by
  rw [ld0 k.view g0, ld1 k.view g1, ld2 k.view g2, ld3 k.view g3, ldC0 sM.view e0, ldC1 sM.view e1, ldC2 sM.view e2, ldC3 sM.view e3]
  exact hk.inj _ _ ((read_blocks k.view f (fun r => k0_pay36 v (blkC r s) (blk r K)) h0 h1 h2 h3).trans (View.read_rep _ _).symm)

end Cert.KernelIdeal.Sink
-- ==== Proof.Pieces.lean ====
/-
  The forms the buffers' and the slabs' points-to take after a transfer, in terms of what was transferred, and the
  loop's invariant on a matrix buffer.
-/
module

public import proofs.«01_k».proof.Proof.Steps

@[expose] public section

noncomputable section

namespace Cert.KernelIdeal.Sink

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- A slab written whole holds what was written, whatever it held. -/
theorem pts_out (c : Dev nD) (o : Memref sig .tc .hbm S2048x2048 .f32) (fo : Buf (Elt F) (o.view.loc (c : Thread nD τ)))
    (w : S2048x2048.Idx → Elt F .f32) :
    (o.view.loc (c : Thread nD τ) ↦[o.view.set]{fullShare} o.view.writes (Elt F) fo [⟨Rect.whole S2048x2048, w⟩] : sProp 𝕄)
      = (o.view.loc (c : Thread nD τ) ↦[o.view.set]{fullShare} o.view.rep w) := by
  rw [pointsTo_rep (Ix := Unit) (Name := ℕ) (U := Pipeline.UD sig nD τ) (Lvl := ℕ) (c : Thread nD τ) o, View.read_writes_whole]

variable {k : Memref sig .tc .vmem S2048x2048 .f32}

/-- The buffer written whole holds what was written. -/
theorem write_k (hk : IsWhole (F := F) k) (f : k.view.ty.Contents (Elt F)) (w : S2048x2048.Idx → Elt F .f32) :
    k.view.write (Elt F) f w Finset.univ = k.view.rep w :=
  hk.inj _ _ ((View.read_write_univ f w).trans (View.read_rep _ _).symm)
/-- All of the buffer's elements are the buffer. -/
theorem pts_k (hk : IsWhole (F := F) k) (c : Dev nD) (f : Buf (Elt F) (k.view.loc (c : Thread nD τ))) :
    (k.view.loc (c : Thread nD τ) ↦[k.view.set]{fullShare} f : sProp 𝕄) = (k.view.loc (c : Thread nD τ) ↦{fullShare} f) := by
  rw [hk.set]

/-- Before pass `n` of the loop: the buffer holds the exponentials, the column the row sums of the pass before, and the
    row carried is the iteration's `n`-th. -/
def inv (k : Memref sig .tc .vmem S2048x2048 .f32) (c : Dev nD) (X : S2048x2048.Idx → Elt F .f32) (n : ℕ) (acc : FVec F S1x2048 .f32) : sProp 𝕄 :=
  iprop((k.view.loc (c : Thread nD τ) ↦{fullShare} k.view.rep (expK X))
    ∗ (∃ f6 : Buf (Elt F) (sM.view.loc (c : Thread nD τ)), ⌜n ≠ 0 → f6 = sM.view.rep (rowS (expK X) (vN (expK X) (v0 X) (n - 1)))⌝ ∗ (sM.view.loc (c : Thread nD τ) ↦{fullShare} f6))
    ∗ ⌜acc = vN (expK X) (v0 X) n⌝)

/-- What is held before the loop is the invariant at pass 0. -/
theorem inv_zero (k : Memref sig .tc .vmem S2048x2048 .f32) (c : Dev nD) (X : S2048x2048.Idx → Elt F .f32) (f6 : Buf (Elt F) (sM.view.loc (c : Thread nD τ))) :
    iprop((k.view.loc (c : Thread nD τ) ↦{fullShare} k.view.rep (expK X)) ∗ (sM.view.loc (c : Thread nD τ) ↦{fullShare} f6))
    ⊢ inv k c X 0 (v0 X) := by
  unfold inv
  iintro ⟨H1, H6⟩
  isplitl [H1]; · iexact H1
  isplitl [H6]
  · iexists f6
    isplitr
    · ipureintro
      exact fun h => absurd rfl h
    iexact H6
  ipureintro
  rfl

/-- The invariant at a pass gives the exponentials, the column with some contents, and the row carried. -/
theorem inv_open (k : Memref sig .tc .vmem S2048x2048 .f32) (c : Dev nD) (X : S2048x2048.Idx → Elt F .f32) (n : ℕ) (acc : FVec F S1x2048 .f32) :
    inv k c X n acc
    ⊢ iprop((k.view.loc (c : Thread nD τ) ↦{fullShare} k.view.rep (expK X)) ∗ (∃ f6 : Buf (Elt F) (sM.view.loc (c : Thread nD τ)), (sM.view.loc (c : Thread nD τ) ↦{fullShare} f6)) ∗ ⌜acc = vN (expK X) (v0 X) n⌝) := by
  unfold inv
  iintro ⟨H1, ⟨%g6, -, H6⟩, %hacc⟩
  isplitl [H1]; · iexact H1
  isplitl [H6]; · iexists g6; iexact H6
  ipureintro
  exact hacc

/-- What a pass leaves is the invariant at the next one. -/
theorem inv_succ (k : Memref sig .tc .vmem S2048x2048 .f32) (c : Dev nD) (X : S2048x2048.Idx → Elt F .f32) (n : ℕ) (f6 : Buf (Elt F) (sM.view.loc (c : Thread nD τ)))
    (acc : FVec F S1x2048 .f32) (h6 : f6 = sM.view.rep (rowS (expK X) (vN (expK X) (v0 X) n))) (ha : acc = vstep (expK X) (vN (expK X) (v0 X) n)) :
    iprop((k.view.loc (c : Thread nD τ) ↦{fullShare} k.view.rep (expK X)) ∗ (sM.view.loc (c : Thread nD τ) ↦{fullShare} f6))
    ⊢ inv k c X (n + 1) acc := by
  subst h6 ha
  unfold inv
  iintro ⟨H1, H6⟩
  isplitl [H1]; · iexact H1
  isplitl [H6]
  · iexists sM.view.rep (rowS (expK X) (vN (expK X) (v0 X) n))
    isplitr
    · ipureintro
      exact fun _ => rfl
    iexact H6
  ipureintro
  rfl

/-- After the ninth pass the column holds the row sums of the eighth row of scales, and the row carried is the ninth. -/
theorem inv_last (k : Memref sig .tc .vmem S2048x2048 .f32) (c : Dev nD) (X : S2048x2048.Idx → Elt F .f32) (acc : FVec F S1x2048 .f32) :
    inv k c X 9 acc
    ⊢ iprop((k.view.loc (c : Thread nD τ) ↦{fullShare} k.view.rep (expK X)) ∗ (sM.view.loc (c : Thread nD τ) ↦{fullShare} sM.view.rep (rowS (expK X) (vN (expK X) (v0 X) 8))) ∗ ⌜acc = vN (expK X) (v0 X) 9⌝) := by
  unfold inv
  iintro ⟨H1, ⟨%g6, %hg6, H6⟩, %hacc⟩
  obtain rfl := hg6 (by decide)
  isplitl [H1]; · iexact H1
  isplitl [H6]; · iexact H6
  ipureintro
  exact hacc

end Cert.KernelIdeal.Sink
-- ==== Proof.Four.lean ====
/-
  Buffers held in four parts: the matrix buffer by its row blocks, the argument and the result by their matrices,
  the argument's matrix 0 by its row blocks.
-/
module

public import proofs.«01_k».proof.Proof.Pieces

@[expose] public section

noncomputable section

namespace Cert.KernelIdeal.Sink

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- A set of elements in four parts, told apart by `p`: held whole, held part by part. -/
theorem four {ℓ : Loc nD τ sig} {f : Buf (Elt F) ℓ} {S A0 A1 A2 A3 : Finset (Idx ℓ)} (p : Idx ℓ → ℕ)
    (h0 : ∀ i, i ∈ A0 ↔ i ∈ S ∧ p i = 0) (h1 : ∀ i, i ∈ A1 ↔ i ∈ S ∧ p i = 1) (h2 : ∀ i, i ∈ A2 ↔ i ∈ S ∧ p i = 2) (h3 : ∀ i, i ∈ A3 ↔ i ∈ S ∧ p i = 3)
    (hp : ∀ i, i ∈ S → p i < 4) :
    (ℓ ↦[S]{fullShare} f : sProp 𝕄) ⊣⊢ iprop((ℓ ↦[A0]{fullShare} f) ∗ (ℓ ↦[A1]{fullShare} f) ∗ (ℓ ↦[A2]{fullShare} f) ∗ (ℓ ↦[A3]{fullShare} f)) := by
  have e : S = A0 ∪ (A1 ∪ (A2 ∪ A3)) := by
    ext i
    simp only [Finset.mem_union, h0, h1, h2, h3]
    constructor
    · intro h; have := hp i h; have : p i = 0 ∨ p i = 1 ∨ p i = 2 ∨ p i = 3 := by omega
      tauto
    · tauto
  have d0 : Disjoint A0 (A1 ∪ (A2 ∪ A3)) := Finset.disjoint_left.mpr fun i hi hj => by
    have := ((h0 i).mp hi).2
    simp only [Finset.mem_union, h1, h2, h3] at hj
    omega
  have d1 : Disjoint A1 (A2 ∪ A3) := Finset.disjoint_left.mpr fun i hi hj => by
    have := ((h1 i).mp hi).2
    simp only [Finset.mem_union, h2, h3] at hj
    omega
  have d2 : Disjoint A2 A3 := Finset.disjoint_left.mpr fun i hi hj => by
    have := ((h2 i).mp hi).2
    have := ((h3 i).mp hj).2
    omega
  rw [e]
  constructor
  · iintro H
    ihave ⟨H0, H⟩ := (pointsTo_union d0).1 $$ H
    ihave ⟨H1, H⟩ := (pointsTo_union d1).1 $$ H
    ihave ⟨H2, H3⟩ := (pointsTo_union d2).1 $$ H
    isplitl [H0]; · iexact H0
    isplitl [H1]; · iexact H1
    isplitl [H2]; · iexact H2
    iexact H3
  · iintro ⟨H0, H1, H2, H3⟩
    iapply (pointsTo_union d0).2
    isplitl [H0]; · iexact H0
    iapply (pointsTo_union d1).2
    isplitl [H1]; · iexact H1
    iapply (pointsTo_union d2).2
    isplitl [H2]; · iexact H2
    iexact H3

/-- Which elements a row block of the matrix buffer has. -/
theorem mem_row (r : Fin 4) (y : S2048x2048.Idx) : y ∈ kM0.view.setOn (RK (512 * r.val) (hK r)).set ↔ (y 0).val / 512 = r.val := by
  have e : y ∈ kM0.view.setOn (RK (512 * r.val) (hK r)).set ↔ y ∈ (RK (512 * r.val) (hK r)).set := View.mem_setOn (v := kM0.view) (x := y)
  rw [e, Rect.mem_set_unit]
  have h1 : (y 1).val < 2048 := (y 1).isLt
  have hr := r.isLt
  constructor
  · intro h
    have h := h 0
    change 512 * r.val ≤ (y 0).val ∧ (y 0).val < 512 * r.val + 512 at h
    omega
  · intro h a
    match a with
    | ⟨0, _⟩ => show 512 * r.val ≤ (y 0).val ∧ (y 0).val < 512 * r.val + 512; omega
    | ⟨1, _⟩ => show 0 ≤ (y 1).val ∧ (y 1).val < 0 + 2048; omega

/-- The matrix buffer by its row blocks. -/
theorem rows (c : Dev nD) (f : Buf (Elt F) (kM0.view.loc (c : Thread nD τ))) :
    (kM0.view.loc (c : Thread nD τ) ↦{fullShare} f : sProp 𝕄)
      ⊣⊢ iprop((kM0.view.loc (c : Thread nD τ) ↦[kM0.view.setOn (RK 0 (hK 0)).set]{fullShare} f) ∗ (kM0.view.loc (c : Thread nD τ) ↦[kM0.view.setOn (RK 512 (hK 1)).set]{fullShare} f)
        ∗ (kM0.view.loc (c : Thread nD τ) ↦[kM0.view.setOn (RK 1024 (hK 2)).set]{fullShare} f) ∗ (kM0.view.loc (c : Thread nD τ) ↦[kM0.view.setOn (RK 1536 (hK 3)).set]{fullShare} f)) :=
  four (fun y : S2048x2048.Idx => (y 0).val / 512) (fun y => by simpa using mem_row 0 y) (fun y => by simpa using mem_row 1 y) (fun y => by simpa using mem_row 2 y) (fun y => by simpa using mem_row 3 y)
    (fun y _ => by have h : (y 0).val < 2048 := (y 0).isLt; omega)

/-- Which elements a matrix of the argument, of the result, and a row block of the argument's matrix 0 have. -/
theorem mem_T (off h) (y : S4x2048x2048.Idx) : y ∈ (tS off h).view.set ↔ ∀ a, off a ≤ (y a).val ∧ (y a).val < off a + S1x2048x2048.size a := by
  rw [Memref.set_view_squeeze]
  exact (Finset.ext_iff.mp (View.set_slice_whole main_arg0 _) y).trans Rect.mem_set_unit
/-- Which elements a matrix of the result has. -/
theorem mem_O (off h) (y : S4x2048x2048.Idx) : y ∈ (oS off h).view.set ↔ ∀ a, off a ≤ (y a).val ∧ (y a).val < off a + S1x2048x2048.size a := by
  rw [Memref.set_view_squeeze]
  exact (Finset.ext_iff.mp (View.set_slice_whole main_v0 _) y).trans Rect.mem_set_unit
/-- Which elements a row block of the argument's matrix 0 has. -/
theorem mem_C (off h) (y : S4x2048x2048.Idx) : y ∈ (cS off h).view.set ↔ ∀ a, off a ≤ (y a).val ∧ (y a).val < off a + S1x512x2048.size a := by
  rw [Memref.set_view_squeeze]
  exact (Finset.ext_iff.mp (View.set_slice_whole main_arg0 _) y).trans Rect.mem_set_unit
/-- The bounds that say an element lies in matrix `b`. -/
theorem in_slab (b : ℕ) (y : S4x2048x2048.Idx) : (∀ a, (![b, 0, 0] : Fin S4x2048x2048.rank → ℕ) a ≤ (y a).val ∧ (y a).val < (![b, 0, 0] : Fin S4x2048x2048.rank → ℕ) a + S1x2048x2048.size a) ↔ (y 0).val = b := by
  have h1 : (y 1).val < 2048 := (y 1).isLt
  have h2 : (y 2).val < 2048 := (y 2).isLt
  constructor
  · intro h
    have h := h 0
    change b ≤ (y 0).val ∧ (y 0).val < b + 1 at h
    omega
  · intro h a
    match a with
    | ⟨0, _⟩ => show b ≤ (y 0).val ∧ (y 0).val < b + 1; omega
    | ⟨1, _⟩ => show 0 ≤ (y 1).val ∧ (y 1).val < 0 + 2048; omega
    | ⟨2, _⟩ => show 0 ≤ (y 2).val ∧ (y 2).val < 0 + 2048; omega
/-- The bounds that say an element lies in row block `r` of matrix 0. -/
theorem in_chunk (r : ℕ) (y : S4x2048x2048.Idx) : (∀ a, (![0, 512 * r, 0] : Fin S4x2048x2048.rank → ℕ) a ≤ (y a).val ∧ (y a).val < (![0, 512 * r, 0] : Fin S4x2048x2048.rank → ℕ) a + S1x512x2048.size a) ↔ (y 0).val = 0 ∧ (y 1).val / 512 = r := by
  have h2 : (y 2).val < 2048 := (y 2).isLt
  constructor
  · intro h
    have h0 := h 0
    have h1 := h 1
    change 0 ≤ (y 0).val ∧ (y 0).val < 0 + 1 at h0
    change 512 * r ≤ (y 1).val ∧ (y 1).val < 512 * r + 512 at h1
    omega
  · intro h a
    match a with
    | ⟨0, _⟩ => show 0 ≤ (y 0).val ∧ (y 0).val < 0 + 1; omega
    | ⟨1, _⟩ => show 512 * r ≤ (y 1).val ∧ (y 1).val < 512 * r + 512; omega
    | ⟨2, _⟩ => show 0 ≤ (y 2).val ∧ (y 2).val < 0 + 2048; omega

/-- The argument by its matrices. -/
theorem slabsT (c : Dev nD) (f : Buf (Elt F) (tM.view.loc (c : Thread nD τ))) :
    (tM.view.loc (c : Thread nD τ) ↦{fullShare} f : sProp 𝕄)
      ⊣⊢ iprop((T0.view.loc (c : Thread nD τ) ↦[T0.view.set]{fullShare} f) ∗ (T1.view.loc (c : Thread nD τ) ↦[T1.view.set]{fullShare} f)
        ∗ (T2.view.loc (c : Thread nD τ) ↦[T2.view.set]{fullShare} f) ∗ (T3.view.loc (c : Thread nD τ) ↦[T3.view.set]{fullShare} f)) :=
  have m (b : ℕ) (h) (y : S4x2048x2048.Idx) : y ∈ (tS ![b, 0, 0] h).view.set ↔ y ∈ (Finset.univ : Finset S4x2048x2048.Idx) ∧ (y 0).val = b :=
    ((mem_T _ h y).trans (in_slab b y)).trans (by simp)
  four (fun y : S4x2048x2048.Idx => (y 0).val) (m 0 inbS0) (m 1 inbS1) (m 2 inbS2) (m 3 inbS3) (fun y _ => (y 0).isLt)

/-- The result by its matrices. -/
theorem slabsO (c : Dev nD) (f : Buf (Elt F) (oM.view.loc (c : Thread nD τ))) :
    (oM.view.loc (c : Thread nD τ) ↦{fullShare} f : sProp 𝕄)
      ⊣⊢ iprop((O0.view.loc (c : Thread nD τ) ↦[O0.view.set]{fullShare} f) ∗ (O1.view.loc (c : Thread nD τ) ↦[O1.view.set]{fullShare} f)
        ∗ (O2.view.loc (c : Thread nD τ) ↦[O2.view.set]{fullShare} f) ∗ (O3.view.loc (c : Thread nD τ) ↦[O3.view.set]{fullShare} f)) :=
  have m (b : ℕ) (h) (y : S4x2048x2048.Idx) : y ∈ (oS ![b, 0, 0] h).view.set ↔ y ∈ (Finset.univ : Finset S4x2048x2048.Idx) ∧ (y 0).val = b :=
    ((mem_O _ h y).trans (in_slab b y)).trans (by simp)
  four (fun y : S4x2048x2048.Idx => (y 0).val) (m 0 inbS0) (m 1 inbS1) (m 2 inbS2) (m 3 inbS3) (fun y _ => (y 0).isLt)

/-- The argument's matrix 0 by its row blocks. -/
theorem chunksT (c : Dev nD) (f : Buf (Elt F) (tM.view.loc (c : Thread nD τ))) :
    (T0.view.loc (c : Thread nD τ) ↦[T0.view.set]{fullShare} f : sProp 𝕄)
      ⊣⊢ iprop((C0.view.loc (c : Thread nD τ) ↦[C0.view.set]{fullShare} f) ∗ (C1.view.loc (c : Thread nD τ) ↦[C1.view.set]{fullShare} f)
        ∗ (C2.view.loc (c : Thread nD τ) ↦[C2.view.set]{fullShare} f) ∗ (C3.view.loc (c : Thread nD τ) ↦[C3.view.set]{fullShare} f)) :=
  have m (r : Fin 4) (y : S4x2048x2048.Idx) : y ∈ (cS ![0, 512 * r.val, 0] (inbC r)).view.set ↔ y ∈ T0.view.set ∧ (y 1).val / 512 = r.val :=
    ((mem_C _ _ y).trans (in_chunk r.val y)).trans (and_congr ((mem_T _ inbS0 y).trans (in_slab 0 y)).symm Iff.rfl)
  have hp (y : S4x2048x2048.Idx) : (y 1).val / 512 < 4 := by have h : (y 1).val < 2048 := (y 1).isLt; omega
  four (fun y : S4x2048x2048.Idx => (y 1).val / 512) (m 0) (m 1) (m 2) (m 3) (fun y _ => hp y)

/-- Reading, inside row block `r`, a matrix whose last store wrote that block of `X`. -/
theorem read_stored {sp : Space} (v : View sig .tc sp S2048x2048 .f32) (r : Fin 4) (X : S2048x2048.Idx → Elt F .f32) (f : v.ty.Contents (Elt F)) (h) (L) (y : S2048x2048.Idx)
    (hy : y ∈ (RK (512 * r.val) (hK r)).set) :
    v.read (Elt F) (v.writes (Elt F) f (⟨RK (512 * r.val) h, blk r X⟩ :: L)) y = X y := by
  rw [← Rect.map_emb_univ] at hy
  obtain ⟨x, -, rfl⟩ := Finset.mem_map.mp hy
  exact View.read_writes_cons_unit_of_mem v f h (blk r X) L _ x rfl (fun a => by rw [Rect.emb_apply]; simp [Rect.unit])

/-- A part of a buffer, at two contents that read alike there. -/
theorem part_congr (c : Dev nD) (k : Memref sig .tc .vmem S2048x2048 .f32) (S : Finset S2048x2048.Idx) (f g : Buf (Elt F) (k.view.loc (c : Thread nD τ)))
    (h : ∀ y ∈ S, k.view.read (Elt F) f y = k.view.read (Elt F) g y) :
    (k.view.loc (c : Thread nD τ) ↦[k.view.setOn S]{fullShare} f : sProp 𝕄) = (k.view.loc (c : Thread nD τ) ↦[k.view.setOn S]{fullShare} g) :=
  pointsTo_congr fun i hi => by
    obtain ⟨y, hy, rfl⟩ := Finset.mem_map.mp hi
    have h := h y hy
    rw [View.read_apply, View.read_apply] at h
    simpa only [cast_cast, cast_eq] using congrArg (_root_.cast (congrArg (Elt F) k.view.elt_eq).symm) h

/-- A row block of a matrix buffer whose last store wrote that block of `X` holds it. -/
theorem stored (c : Dev nD) (k : Memref sig .tc .vmem S2048x2048 .f32) (r : Fin 4) (X : S2048x2048.Idx → Elt F .f32) (f0 : Buf (Elt F) (k.view.loc (c : Thread nD τ))) (h) (L) :
    (k.view.loc (c : Thread nD τ) ↦[k.view.setOn (RK (512 * r.val) (hK r)).set]{fullShare} k.view.writes (Elt F) f0 (⟨RK (512 * r.val) h, blk r X⟩ :: L) : sProp 𝕄)
      = (k.view.loc (c : Thread nD τ) ↦[k.view.setOn (RK (512 * r.val) (hK r)).set]{fullShare} k.view.rep X) :=
  part_congr c k _ _ _ fun y hy => (read_stored k.view r X f0 h L y hy).trans (congrFun (View.read_rep k.view X) y).symm

/-- The row block loaded after the transfer that filled it. -/
theorem landed {o : ℕ} (h h') (P : S512x2048.Idx → Elt F .f32) : kM0.view.readCov [(⟨RK o h, P⟩ : View.Piece (Elt F) S2048x2048 .f32)] (RK o h').toLoadRect = P :=
  View.readCov_cons_toLoadRect kM0.view (RK o h) P []

/-- The exponentials of the four row blocks are the matrix buffer's contents. -/
theorem blk_exp (X : S2048x2048.Idx → Elt F .f32) (r : Fin 4) : blk r (expK X) = k0_pay11 (blk r X) := funext fun x => glue_emb (fun r => k0_pay11 (blk r X)) r x

/-- A row block of the first matrix buffer into which the exponentials were stored holds its part of the exponentials. -/
theorem stored' (c : Dev nD) (r : Fin 4) (X : S2048x2048.Idx → Elt F .f32) (f0 : Buf (Elt F) (kM0.view.loc (c : Thread nD τ))) (h) (L) :
    (kM0.view.loc (c : Thread nD τ) ↦[kM0.view.setOn (RK (512 * r.val) (hK r)).set]{fullShare} kM0.view.writes (Elt F) f0 (⟨RK (512 * r.val) h, k0_pay11 (F := F) (blk r X)⟩ :: L) : sProp 𝕄)
      ⊢ (kM0.view.loc (c : Thread nD τ) ↦[kM0.view.setOn (RK (512 * r.val) (hK r)).set]{fullShare} kM0.view.rep (expK X)) := by
  rw [← blk_exp X r]
  exact Entails.of_eq (stored c kM0 r (expK X) f0 h L)
/-- Point 0's four row blocks, each with its transfer landed and its exponentials stored, are the matrix buffer of
    exponentials. -/
theorem init0 (c : Dev nD) (X : S2048x2048.Idx → Elt F .f32) (f0 : Buf (Elt F) (kM0.view.loc (c : Thread nD τ))) (P0 P1 P2 P3 : S512x2048.Idx → Elt F .f32)
    (e0 : P0 = blk 0 X) (e1 : P1 = blk 1 X) (e2 : P2 = blk 2 X) (e3 : P3 = blk 3 X) (a0 a1 a2 a3 b0 b1 b2 b3 c0 c1 c2 c3) :
    iprop((kM0.view.loc (c : Thread nD τ) ↦[kM0.view.setOn (RK 0 (hK 0)).set]{fullShare} kM0.view.writes (Elt F) f0 [⟨RK 0 a0, k0_pay11 (F := F) (kM0.view.readCov [(⟨RK 0 b0, P0⟩ : View.Piece (Elt F) S2048x2048 .f32)] (RK 0 c0).toLoadRect)⟩, ⟨RK 0 b0, P0⟩])
      ∗ (kM0.view.loc (c : Thread nD τ) ↦[kM0.view.setOn (RK 512 (hK 1)).set]{fullShare} kM0.view.writes (Elt F) f0 [⟨RK 512 a1, k0_pay15 (F := F) (kM0.view.readCov [(⟨RK 512 b1, P1⟩ : View.Piece (Elt F) S2048x2048 .f32)] (RK 512 c1).toLoadRect)⟩, ⟨RK 512 b1, P1⟩])
      ∗ (kM0.view.loc (c : Thread nD τ) ↦[kM0.view.setOn (RK 1024 (hK 2)).set]{fullShare} kM0.view.writes (Elt F) f0 [⟨RK 1024 a2, k0_pay20 (F := F) (kM0.view.readCov [(⟨RK 1024 b2, P2⟩ : View.Piece (Elt F) S2048x2048 .f32)] (RK 1024 c2).toLoadRect)⟩, ⟨RK 1024 b2, P2⟩])
      ∗ (kM0.view.loc (c : Thread nD τ) ↦[kM0.view.setOn (RK 1536 (hK 3)).set]{fullShare} kM0.view.writes (Elt F) f0 [⟨RK 1536 a3, k0_pay25 (F := F) (kM0.view.readCov [(⟨RK 1536 b3, P3⟩ : View.Piece (Elt F) S2048x2048 .f32)] (RK 1536 c3).toLoadRect)⟩, ⟨RK 1536 b3, P3⟩]))
      ⊢ (kM0.view.loc (c : Thread nD τ) ↦{fullShare} kM0.view.rep (expK X) : sProp 𝕄) := by
  subst e0 e1 e2 e3
  rw [landed b0 c0, landed b1 c1, landed b2 c2, landed b3 c3]
  refine BIBase.Entails.trans ?_ (rows c (kM0.view.rep (expK X))).2
  exact BI.sep_mono (stored' c 0 X f0 a0 _) (BI.sep_mono (stored' c 1 X f0 a1 _) (BI.sep_mono (stored' c 2 X f0 a2 _) (stored' c 3 X f0 a3 _)))

/-- The row carried into point 0's loop. -/
theorem init0_v (X : S2048x2048.Idx → Elt F .f32) (P0 P1 P2 P3 : S512x2048.Idx → Elt F .f32)
    (e0 : P0 = blk 0 X) (e1 : P1 = blk 1 X) (e2 : P2 = blk 2 X) (e3 : P3 = blk 3 X) (b0 b1 b2 b3 c0 c0' c1 c2 c3) :
    k0_pay28 (F := F) (k0_pay23 (k0_pay18 k0_pay9 (k0_pay10 (kM0.view.readCov [(⟨RK 0 b0, P0⟩ : View.Piece (Elt F) S2048x2048 .f32)] (RK 0 c0).toLoadRect)) (k0_pay12 (kM0.view.readCov [(⟨RK 0 b0, P0⟩ : View.Piece (Elt F) S2048x2048 .f32)] (RK 0 c0').toLoadRect)) (kM0.view.readCov [(⟨RK 512 b1, P1⟩ : View.Piece (Elt F) S2048x2048 .f32)] (RK 512 c1).toLoadRect)) (kM0.view.readCov [(⟨RK 1024 b2, P2⟩ : View.Piece (Elt F) S2048x2048 .f32)] (RK 1024 c2).toLoadRect)) (k0_pay24 (kM0.view.readCov [(⟨RK 1536 b3, P3⟩ : View.Piece (Elt F) S2048x2048 .f32)] (RK 1536 c3).toLoadRect)) = v0 X := by
  subst e0 e1 e2 e3
  rw [landed b0 c0, landed b1 c1, landed b2 c2, landed b3 c3]
  rfl

/-- Place `x` of matrix `b`. -/
def at3 (b : Fin 4) (x : S2048x2048.Idx) : S4x2048x2048.Idx := fun a => Fin.cases (motive := fun a => Fin (S4x2048x2048.size a)) b (fun a => x a) a
/-- An array's matrix `b` at a place, read through the matrix, for the argument and for the result. -/
theorem read_T (b : Fin 4) (h) (f : tM.view.ty.Contents (Elt F)) (x : S2048x2048.Idx) : (tS ![b.val, 0, 0] h).view.read (Elt F) f x = f (at3 b x) := by
  have e : (tS ![b.val, 0, 0] h).view.emb x = (Rect.unit (s := S4x2048x2048) ![b.val, 0, 0] S1x2048x2048.size h).emb (Shape.reshapeEquiv squeezes_S1x2048x2048_S2048x2048.numel_eq x) := rfl
  refine congrArg f (e.trans ?_)
  rw [Shape.reshapeEquiv_cons_one]
  funext a
  refine Fin.ext ?_
  rw [Rect.emb_apply]
  match a with
  | ⟨0, _⟩ => show b.val + 1 * 0 = b.val; omega
  | ⟨1, _⟩ => show 0 + 1 * (x 0).val = (x 0).val; omega
  | ⟨2, _⟩ => show 0 + 1 * (x 1).val = (x 1).val; omega
/-- A matrix of the result, read at an index, is the batch at that index. -/
theorem read_O (b : Fin 4) (h) (f : oM.view.ty.Contents (Elt F)) (x : S2048x2048.Idx) : (oS ![b.val, 0, 0] h).view.read (Elt F) f x = f (at3 b x) := by
  have e : (oS ![b.val, 0, 0] h).view.emb x = (Rect.unit (s := S4x2048x2048) ![b.val, 0, 0] S1x2048x2048.size h).emb (Shape.reshapeEquiv squeezes_S1x2048x2048_S2048x2048.numel_eq x) := rfl
  refine congrArg f (e.trans ?_)
  rw [Shape.reshapeEquiv_cons_one]
  funext a
  refine Fin.ext ?_
  rw [Rect.emb_apply]
  match a with
  | ⟨0, _⟩ => show b.val + 1 * 0 = b.val; omega
  | ⟨1, _⟩ => show 0 + 1 * (x 0).val = (x 0).val; omega
  | ⟨2, _⟩ => show 0 + 1 * (x 1).val = (x 1).val; omega
/-- Row block `r` of the argument's matrix 0, read through its transfer's source and through the matrix. -/
theorem read_chunk (r : Fin 4) (f : tM.view.ty.Contents (Elt F)) : (cS ![0, 512 * r.val, 0] (inbC r)).view.read (Elt F) f = blk r (T0.view.read (Elt F) f) := by
  funext x
  refine Eq.trans ?_ (read_T 0 inbS0 f ((RK (512 * r.val) (hK r)).emb x)).symm
  have e : (cS ![0, 512 * r.val, 0] (inbC r)).view.emb x = (Rect.unit (s := S4x2048x2048) ![0, 512 * r.val, 0] S1x512x2048.size (inbC r)).emb (Shape.reshapeEquiv squeezes_S1x512x2048_S512x2048.numel_eq x) := rfl
  refine congrArg f (e.trans ?_)
  rw [Shape.reshapeEquiv_cons_one]
  funext a
  refine Fin.ext ?_
  rw [Rect.emb_apply]
  match a with
  | ⟨0, _⟩ => rfl
  | ⟨1, _⟩ => exact (show 512 * r.val + 1 * (x 0).val = 512 * r.val + (x 0).val by omega).trans (emb0 r x).symm
  | ⟨2, _⟩ => exact (show 0 + 1 * (x 1).val = (x 1).val by omega).trans (emb1 r x).symm

end Cert.KernelIdeal.Sink
-- ==== Proof.Point0.lean ====
/-
  Point 0 of the grid: its body runs from the buffers and transfers it finds to those it leaves.
-/
module

public import proofs.«01_k».proof.Proof.Four

@[expose] public section

noncomputable section

namespace Cert.KernelIdeal.Sink

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The coordinates of point 0. -/
abbrev i0 : grid0.Coords := grid0.coords t0_0

set_option maxHeartbeats 1000000 in
/-- Point 0 of the grid, from the resources it takes to the resources it leaves. -/
theorem pt0 (c : Dev nD) (X : S2048x2048.Idx → Elt F .f32) (f0 : Buf (Elt F) (kM0.view.loc (c : Thread nD τ))) (ft : Buf (Elt F) (tM.view.loc (c : Thread nD τ))) (f1 : Buf (Elt F) (kM1.view.loc (c : Thread nD τ))) (fo : Buf (Elt F) (O0.view.loc (c : Thread nD τ)))
    (f6 : Buf (Elt F) (sM.view.loc (c : Thread nD τ))) (W : Waits sig Unit)
    (hX : T0.view.read (Elt F) ft = X) :
    (iprop(((kM0.view.loc (c : Thread nD τ) ↦[kM0.view.setOn (RK 0 (hK 0)).set]{fullShare} f0))
      ∗ ((kM0.view.loc (c : Thread nD τ) ↦[kM0.view.setOn (RK 512 (hK 1)).set]{fullShare} f0))
      ∗ ((kM0.view.loc (c : Thread nD τ) ↦[kM0.view.setOn (RK 1024 (hK 2)).set]{fullShare} f0))
      ∗ ((kM0.view.loc (c : Thread nD τ) ↦[kM0.view.setOn (RK 1536 (hK 3)).set]{fullShare} f0))
      ∗ ((C0.view.loc (c : Thread nD τ) ↦[C0.view.set]{fullShare} ft))
      ∗ ((C1.view.loc (c : Thread nD τ) ↦[C1.view.set]{fullShare} ft))
      ∗ ((C2.view.loc (c : Thread nD τ) ↦[C2.view.set]{fullShare} ft))
      ∗ ((C3.view.loc (c : Thread nD τ) ↦[C3.view.set]{fullShare} ft))
      ∗ (semVal ((c : Thread nD τ), SemLoc.dma 6) 0)
      ∗ (semVal ((c : Thread nD τ), SemLoc.dma 7) 0)
      ∗ (semVal ((c : Thread nD τ), SemLoc.dma 8) 0)
      ∗ (semVal ((c : Thread nD τ), SemLoc.dma 9) 0)
      ∗ ((kM1.view.loc (c : Thread nD τ) ↦{fullShare} f1))
      ∗ ((T1.view.loc (c : Thread nD τ) ↦[T1.view.set]{fullShare} ft))
      ∗ (semVal ((c : Thread nD τ), SemLoc.dma 1) 0)
      ∗ (semVal ((c : Thread nD τ), SemLoc.dma 3) 0)
      ∗ ((O0.view.loc (c : Thread nD τ) ↦[O0.view.set]{fullShare} fo))
      ∗ ((sM.view.loc (c : Thread nD τ) ↦{fullShare} f6))
      ∗ (owes (c : Thread nD τ) 0 W)) : sProp 𝕄)
    ⊢ wp frame (wpE (defs₀ (F := F)) Variants.none (c : Thread nD τ) none) Set.univ (bodyAt0 (F := F) t0_0) (fun _ =>
      iprop(((C0.view.loc (c : Thread nD τ) ↦[C0.view.set]{fullShare} ft))
        ∗ ((C1.view.loc (c : Thread nD τ) ↦[C1.view.set]{fullShare} ft))
        ∗ ((C2.view.loc (c : Thread nD τ) ↦[C2.view.set]{fullShare} ft))
        ∗ ((C3.view.loc (c : Thread nD τ) ↦[C3.view.set]{fullShare} ft))
        ∗ (semVal ((c : Thread nD τ), SemLoc.dma 6) 0)
        ∗ (semVal ((c : Thread nD τ), SemLoc.dma 7) 0)
        ∗ (semVal ((c : Thread nD τ), SemLoc.dma 8) 0)
        ∗ (semVal ((c : Thread nD τ), SemLoc.dma 9) 0)
        ∗ (Transfers.Flight countersEmb (c : Thread nD τ) (SemLoc.dma 1) () 524288 iprop((kM1.view.loc (c : Thread nD τ) ↦{fullShare} kM1.view.rep (T1.view.read (Elt F) ft)) ∗ (T1.view.loc (c : Thread nD τ) ↦[T1.view.set]{fullShare} ft)))
        ∗ (Transfers.Flight countersEmb (c : Thread nD τ) (SemLoc.dma 3) () 524288 iprop((O0.view.loc (c : Thread nD τ) ↦[O0.view.set]{fullShare} O0.view.rep (final X)) ∗ (kM0.view.loc (c : Thread nD τ) ↦{fullShare} kM0.view.rep (final X))))
        ∗ (∃ f6 : Buf (Elt F) (sM.view.loc (c : Thread nD τ)), (sM.view.loc (c : Thread nD τ) ↦{fullShare} f6))
        ∗ (∃ W : Waits sig Unit, owes (c : Thread nD τ) 0 W))) := by
  have h1 : k0_cond1 i0 = 1#1 := by decide +kernel
  have h2 : k0_cond2 i0 = 1#1 := by decide +kernel
  have h3 : ¬ k0_cond3 i0 = 1#1 := by decide +kernel
  have h4 : ¬ k0_cond4 i0 = 1#1 := by decide +kernel
  have h5 : ¬ k0_cond5 i0 = 1#1 := by decide +kernel
  have h6 : k0_cond6 i0 = 1#1 := by decide +kernel
  have h7 : k0_cond7 i0 = 1#1 := by decide +kernel
  have h8 : k0_cond8 i0 = 1#1 := by decide +kernel
  have h9 : k0_cond9 i0 = 1#1 := by decide +kernel
  have h10 : k0_cond10 i0 = 1#1 := by decide +kernel
  have h11 : ¬ k0_cond11 i0 = 1#1 := by decide +kernel
  have h12 : ¬ k0_cond12 i0 = 1#1 := by decide +kernel
  have h13 : ¬ k0_cond13 i0 = 1#1 := by decide +kernel
  have h14 : ¬ k0_cond14 i0 = 1#1 := by decide +kernel
  have h15 : ¬ k0_cond15 i0 = 1#1 := by decide +kernel
  have h29 : ¬ k0_cond29 i0 = 1#1 := by decide +kernel
  unfold bodyAt0
  sl_unfold [cc0__sinkhorn_kernel]
  iintro ⟨Hb0, Hb1, Hb2, Hb3, Hc0, Hc1, Hc2, Hc3, Hs6, Hs7, Hs8, Hs9, Hk1, Ht1, Hs1, Hs3, Ho0, H6, HW⟩
  sl_exec
  have c0 : pt0.sl.dma0 c ft = blk 0 X := (read_chunk 0 ft).trans (congrArg (blk 0) hX)
  have c1 : pt0.sl.dma0_1 c ft = blk 1 X := (read_chunk 1 ft).trans (congrArg (blk 1) hX)
  have c2 : pt0.sl.dma0_2 c ft = blk 2 X := (read_chunk 2 ft).trans (congrArg (blk 2) hX)
  have c3 : pt0.sl.dma0_3 c ft = blk 3 X := (read_chunk 3 ft).trans (congrArg (blk 3) hX)
  have e2 : k0_pay28 (F := F) (pt0.sl.r_3 c ft h1) (pt0.sl.r_4 c ft h1) = v0 X := by
    sl_unfold_run_names
    exact init0_v X _ _ _ _ c0 c1 c2 c3 _ _ _ _ _ _ _ _ _
  rw [e2]
  ihave Hk0 := (init0 c X f0 _ _ _ _ c0 c1 c2 c3 _ _ _ _ _ _ _ _ _ _ _ _) $$ [Hb0 Hb1 Hb2 Hb3]
  · isplitl [Hb0]; · iexact Hb0
    isplitl [Hb1]; · iexact Hb1
    isplitl [Hb2]; · iexact Hb2
    iexact Hb3
  have ht : Scf.trips k0_t1_loop.lb k0_t1_loop.ub k0_t1_loop.st = 9 := by decide
  sl_for (inv kM0 c X) $$ [Hk0 H6]
  · intro k acc
    iintro HI
    ihave ⟨H1, ⟨%g6, H6⟩, %hacc⟩ := inv_open kM0 c X k.val acc $$ HI
    subst hacc
    sl_exec
    rw [wp_ret]
    imodintro
    refine inv_succ kM0 c X k.val _ _ ?_ ?_
    · exact loop_s kM0 (expK X) _ _ _ _ _ _ _ _ _ _
    · sl_unfold_run_names
      exact loop_v kM0 (expK X) _ _ _ _ _
  · iapply inv_zero kM0 c X
    isplitl [Hk0]; · iexact Hk0
    iexact H6
  rw [ht]
  iintro %acc HI
  ihave ⟨H1, H6, %hacc⟩ := inv_last kM0 c X acc $$ HI
  subst hacc
  sl_exec
  have e5 : pt0.sl.dma20 c ft = T1.view.read (Elt F) ft := rfl
  have e6 : kM0.view.writes (Elt F) (kM0.view.rep (expK X)) (pt0.sl.H1_4 X h1) = kM0.view.rep (final X) := by
    sl_unfold_run_names
    exact last_K whole0 _ _ _ _ _ _ _ _ _ _ _ _ _ _ _ _
  have e7 : pt0.sl.dma16 X h1 = final X := by
    sl_unfold_run_names
    exact (congrArg (kM0.view.read (Elt F)) (last_K whole0 (expK X) _ _ _ _ _ _ _ _ _ _ _ _ _ _ _)).trans (View.read_rep _ _)
  rw [e5, write_k whole1, e6, e7, pts_out, pts_k whole0, wp_ret]
  imodintro
  isplitl [Hc0]; · iexact Hc0
  isplitl [Hc1]; · iexact Hc1
  isplitl [Hc2]; · iexact Hc2
  isplitl [Hc3]; · iexact Hc3
  isplitl [Hs6]; · iexact Hs6
  isplitl [Hs7]; · iexact Hs7
  isplitl [Hs8]; · iexact Hs8
  isplitl [Hs9]; · iexact Hs9
  isplitl [Hs1]; · iexact Hs1
  isplitl [Hs3]; · iexact Hs3
  isplitl [H6]; · iexists _; iexact H6
  iexists _; iexact HW

end Cert.KernelIdeal.Sink
-- ==== Proof.Point1.lean ====
/-
  Point 1 of the grid: its body runs from the buffers and transfers it finds to those it leaves.
-/
module

public import proofs.«01_k».proof.Proof.Pieces

@[expose] public section

noncomputable section

namespace Cert.KernelIdeal.Sink

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The coordinates of point 1. -/
abbrev i1 : grid0.Coords := grid0.coords t0_1

set_option maxHeartbeats 1000000 in
/-- Point 1 of the grid, from the resources it takes to the resources it leaves. -/
theorem pt1 (c : Dev nD) (X : S2048x2048.Idx → Elt F .f32) (f2 : Buf (Elt F) (kM2.view.loc (c : Thread nD τ))) (ft1 : Buf (Elt F) (T1.view.loc (c : Thread nD τ))) (ft2 : Buf (Elt F) (T2.view.loc (c : Thread nD τ))) (fo : Buf (Elt F) (O1.view.loc (c : Thread nD τ)))
    (f6 : Buf (Elt F) (sM.view.loc (c : Thread nD τ))) (W : Waits sig Unit) :
    (iprop((Transfers.Flight countersEmb (c : Thread nD τ) (SemLoc.dma 1) () 524288 iprop((kM1.view.loc (c : Thread nD τ) ↦{fullShare} kM1.view.rep X) ∗ (T1.view.loc (c : Thread nD τ) ↦[T1.view.set]{fullShare} ft1)))
      ∗ ((kM2.view.loc (c : Thread nD τ) ↦{fullShare} f2))
      ∗ ((T2.view.loc (c : Thread nD τ) ↦[T2.view.set]{fullShare} ft2))
      ∗ (semVal ((c : Thread nD τ), SemLoc.dma 2) 0)
      ∗ (semVal ((c : Thread nD τ), SemLoc.dma 4) 0)
      ∗ ((O1.view.loc (c : Thread nD τ) ↦[O1.view.set]{fullShare} fo))
      ∗ ((sM.view.loc (c : Thread nD τ) ↦{fullShare} f6))
      ∗ (owes (c : Thread nD τ) 0 W)) : sProp 𝕄)
    ⊢ wp frame (wpE (defs₀ (F := F)) Variants.none (c : Thread nD τ) none) Set.univ (bodyAt0 (F := F) t0_1) (fun _ =>
      iprop((Transfers.Flight countersEmb (c : Thread nD τ) (SemLoc.dma 2) () 524288 iprop((kM2.view.loc (c : Thread nD τ) ↦{fullShare} kM2.view.rep (T2.view.read (Elt F) ft2)) ∗ (T2.view.loc (c : Thread nD τ) ↦[T2.view.set]{fullShare} ft2)))
        ∗ ((T1.view.loc (c : Thread nD τ) ↦[T1.view.set]{fullShare} ft1))
        ∗ (semVal ((c : Thread nD τ), SemLoc.dma 1) 0)
        ∗ (Transfers.Flight countersEmb (c : Thread nD τ) (SemLoc.dma 4) () 524288 iprop((O1.view.loc (c : Thread nD τ) ↦[O1.view.set]{fullShare} O1.view.rep (final X)) ∗ (kM1.view.loc (c : Thread nD τ) ↦{fullShare} kM1.view.rep (final X))))
        ∗ (∃ f6 : Buf (Elt F) (sM.view.loc (c : Thread nD τ)), (sM.view.loc (c : Thread nD τ) ↦{fullShare} f6))
        ∗ (∃ W : Waits sig Unit, owes (c : Thread nD τ) 0 W))) := by
  have h1 : ¬ k0_cond1 i1 = 1#1 := by decide +kernel
  have h15 : k0_cond15 i1 = 1#1 := by decide +kernel
  have h16 : ¬ k0_cond16 i1 = 1#1 := by decide +kernel
  have h17 : k0_cond17 i1 = 1#1 := by decide +kernel
  have h18 : ¬ k0_cond18 i1 = 1#1 := by decide +kernel
  have h19 : k0_cond19 i1 = 1#1 := by decide +kernel
  have h20 : ¬ k0_cond20 i1 = 1#1 := by decide +kernel
  have h21 : ¬ k0_cond21 i1 = 1#1 := by decide +kernel
  have h22 : ¬ k0_cond22 i1 = 1#1 := by decide +kernel
  have h23 : ¬ k0_cond23 i1 = 1#1 := by decide +kernel
  have h24 : ¬ k0_cond24 i1 = 1#1 := by decide +kernel
  have h25 : ¬ k0_cond25 i1 = 1#1 := by decide +kernel
  have h26 : ¬ k0_cond26 i1 = 1#1 := by decide +kernel
  have h27 : ¬ k0_cond27 i1 = 1#1 := by decide +kernel
  have h28 : k0_cond28 i1 = 1#1 := by decide +kernel
  have h29 : ¬ k0_cond29 i1 = 1#1 := by decide +kernel
  unfold bodyAt0
  sl_unfold [cc0__sinkhorn_kernel]
  iintro ⟨HF1, Hk2, Ht2, Hs2, Hs4, Ho1, H6, HW⟩
  sl_exec
  have e1 : kM1.view.writes (Elt F) kM1.view.junk (pt1.sl.HF1_dst_4 X h15) = kM1.view.rep (expK X) := by
    sl_unfold_run_names
    exact init_K whole1 X _ _ _ _ _ _ _ _ _
  have e2 : k0_pay62 (F := F) (pt1.sl.r_3 X h15) (pt1.sl.r_4 X h15) = v0 X := by
    sl_unfold_run_names
    exact init_v kM1 X _ _ _ _ _
  rw [e1, e2]
  have ht : Scf.trips k0_t2_loop.lb k0_t2_loop.ub k0_t2_loop.st = 9 := by decide
  sl_for (inv kM1 c X) $$ [HF1_dst H6]
  · intro k acc
    iintro HI
    ihave ⟨H1, ⟨%g6, H6⟩, %hacc⟩ := inv_open kM1 c X k.val acc $$ HI
    subst hacc
    sl_exec
    rw [wp_ret]
    imodintro
    refine inv_succ kM1 c X k.val _ _ ?_ ?_
    · exact loop_s kM1 (expK X) _ _ _ _ _ _ _ _ _ _
    · sl_unfold_run_names
      exact loop_v kM1 (expK X) _ _ _ _ _
  · iapply inv_zero kM1 c X
    isplitl [HF1_dst]; · iexact HF1_dst
    iexact H6
  rw [ht]
  iintro %acc HI
  ihave ⟨H1, H6, %hacc⟩ := inv_last kM1 c X acc $$ HI
  subst hacc
  sl_exec
  have e5 : pt1.sl.dma0 c ft2 = T2.view.read (Elt F) ft2 := rfl
  have e6 : kM1.view.writes (Elt F) (kM1.view.rep (expK X)) (pt1.sl.H1_4 X h15) = kM1.view.rep (final X) := by
    sl_unfold_run_names
    exact last_K whole1 _ _ _ _ _ _ _ _ _ _ _ _ _ _ _ _
  have e7 : pt1.sl.dma16 X h15 = final X := by
    sl_unfold_run_names
    exact (congrArg (kM1.view.read (Elt F)) (last_K whole1 (expK X) _ _ _ _ _ _ _ _ _ _ _ _ _ _ _)).trans (View.read_rep _ _)
  rw [e5, write_k whole2, e6, e7, pts_out, pts_k whole1, wp_ret]
  imodintro
  isplitl [Hs2]; · iexact Hs2
  isplitl [HF1_src]; · iexact HF1_src
  isplitl [HF1]; · iexact HF1
  isplitl [Hs4]; · iexact Hs4
  isplitl [H6]; · iexists _; iexact H6
  iexists _; iexact HW

end Cert.KernelIdeal.Sink
-- ==== Proof.Point2.lean ====
/-
  Point 2 of the grid: its body runs from the buffers and transfers it finds to those it leaves.
-/
module

public import proofs.«01_k».proof.Proof.Pieces

@[expose] public section

noncomputable section

namespace Cert.KernelIdeal.Sink

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The coordinates of point 2. -/
abbrev i2 : grid0.Coords := grid0.coords t0_2

set_option maxHeartbeats 1000000 in
/-- Point 2 of the grid, from the resources it takes to the resources it leaves. -/
theorem pt2 (c : Dev nD) (X : S2048x2048.Idx → Elt F .f32) (f0 : Buf (Elt F) (kM0.view.loc (c : Thread nD τ))) (g0 : Buf (Elt F) (O0.view.loc (c : Thread nD τ))) (ft2 : Buf (Elt F) (T2.view.loc (c : Thread nD τ))) (ft3 : Buf (Elt F) (T3.view.loc (c : Thread nD τ))) (fo : Buf (Elt F) (O2.view.loc (c : Thread nD τ)))
    (f6 : Buf (Elt F) (sM.view.loc (c : Thread nD τ))) (W : Waits sig Unit) :
    (iprop((Transfers.Flight countersEmb (c : Thread nD τ) (SemLoc.dma 3) () 524288 iprop((O0.view.loc (c : Thread nD τ) ↦[O0.view.set]{fullShare} g0) ∗ (kM0.view.loc (c : Thread nD τ) ↦{fullShare} f0)))
      ∗ (Transfers.Flight countersEmb (c : Thread nD τ) (SemLoc.dma 2) () 524288 iprop((kM2.view.loc (c : Thread nD τ) ↦{fullShare} kM2.view.rep X) ∗ (T2.view.loc (c : Thread nD τ) ↦[T2.view.set]{fullShare} ft2)))
      ∗ ((T3.view.loc (c : Thread nD τ) ↦[T3.view.set]{fullShare} ft3))
      ∗ (semVal ((c : Thread nD τ), SemLoc.dma 0) 0)
      ∗ (semVal ((c : Thread nD τ), SemLoc.dma 5) 0)
      ∗ ((O2.view.loc (c : Thread nD τ) ↦[O2.view.set]{fullShare} fo))
      ∗ ((sM.view.loc (c : Thread nD τ) ↦{fullShare} f6))
      ∗ (owes (c : Thread nD τ) 0 W)) : sProp 𝕄)
    ⊢ wp frame (wpE (defs₀ (F := F)) Variants.none (c : Thread nD τ) none) Set.univ (bodyAt0 (F := F) t0_2) (fun _ =>
      iprop(((O0.view.loc (c : Thread nD τ) ↦[O0.view.set]{fullShare} g0))
        ∗ (semVal ((c : Thread nD τ), SemLoc.dma 3) 0)
        ∗ (Transfers.Flight countersEmb (c : Thread nD τ) (SemLoc.dma 0) () 524288 iprop((kM0.view.loc (c : Thread nD τ) ↦{fullShare} kM0.view.rep (T3.view.read (Elt F) ft3)) ∗ (T3.view.loc (c : Thread nD τ) ↦[T3.view.set]{fullShare} ft3)))
        ∗ ((T2.view.loc (c : Thread nD τ) ↦[T2.view.set]{fullShare} ft2))
        ∗ (semVal ((c : Thread nD τ), SemLoc.dma 2) 0)
        ∗ (Transfers.Flight countersEmb (c : Thread nD τ) (SemLoc.dma 5) () 524288 iprop((O2.view.loc (c : Thread nD τ) ↦[O2.view.set]{fullShare} O2.view.rep (final X)) ∗ (kM2.view.loc (c : Thread nD τ) ↦{fullShare} kM2.view.rep (final X))))
        ∗ (∃ f6 : Buf (Elt F) (sM.view.loc (c : Thread nD τ)), (sM.view.loc (c : Thread nD τ) ↦{fullShare} f6))
        ∗ (∃ W : Waits sig Unit, owes (c : Thread nD τ) 0 W))) := by
  have h1 : ¬ k0_cond1 i2 = 1#1 := by decide +kernel
  have h15 : ¬ k0_cond15 i2 = 1#1 := by decide +kernel
  have h29 : k0_cond29 i2 = 1#1 := by decide +kernel
  have h30 : ¬ k0_cond30 i2 = 1#1 := by decide +kernel
  have h31 : k0_cond31 i2 = 1#1 := by decide +kernel
  have h32 : k0_cond32 i2 = 1#1 := by decide +kernel
  have h33 : k0_cond33 i2 = 1#1 := by decide +kernel
  have h34 : ¬ k0_cond34 i2 = 1#1 := by decide +kernel
  have h35 : ¬ k0_cond35 i2 = 1#1 := by decide +kernel
  have h36 : ¬ k0_cond36 i2 = 1#1 := by decide +kernel
  have h37 : ¬ k0_cond37 i2 = 1#1 := by decide +kernel
  have h38 : ¬ k0_cond38 i2 = 1#1 := by decide +kernel
  have h39 : k0_cond39 i2 = 1#1 := by decide +kernel
  have h40 : ¬ k0_cond40 i2 = 1#1 := by decide +kernel
  have h41 : k0_cond41 i2 = 1#1 := by decide +kernel
  have h42 : k0_cond42 i2 = 1#1 := by decide +kernel
  unfold bodyAt0
  sl_unfold [cc0__sinkhorn_kernel]
  iintro ⟨HF3, HF2, Ht3, Hs0, Hs5, Ho2, H6, HW⟩
  sl_exec
  have e1 : kM2.view.writes (Elt F) kM2.view.junk (pt2.sl.HF2_dst_4 X h29) = kM2.view.rep (expK X) := by
    sl_unfold_run_names
    exact init_K whole2 X _ _ _ _ _ _ _ _ _
  have e2 : k0_pay96 (F := F) (pt2.sl.r_3 X h29) (pt2.sl.r_4 X h29) = v0 X := by
    sl_unfold_run_names
    exact init_v kM2 X _ _ _ _ _
  rw [e1, e2]
  have ht : Scf.trips k0_t3_loop.lb k0_t3_loop.ub k0_t3_loop.st = 9 := by decide
  sl_for (inv kM2 c X) $$ [HF2_dst H6]
  · intro k acc
    iintro HI
    ihave ⟨H1, ⟨%g6, H6⟩, %hacc⟩ := inv_open kM2 c X k.val acc $$ HI
    subst hacc
    sl_exec
    rw [wp_ret]
    imodintro
    refine inv_succ kM2 c X k.val _ _ ?_ ?_
    · exact loop_s kM2 (expK X) _ _ _ _ _ _ _ _ _ _
    · sl_unfold_run_names
      exact loop_v kM2 (expK X) _ _ _ _ _
  · iapply inv_zero kM2 c X
    isplitl [HF2_dst]; · iexact HF2_dst
    iexact H6
  rw [ht]
  iintro %acc HI
  ihave ⟨H1, H6, %hacc⟩ := inv_last kM2 c X acc $$ HI
  subst hacc
  sl_exec
  have e5 : pt2.sl.dma0 c ft3 = T3.view.read (Elt F) ft3 := rfl
  have e6 : kM2.view.writes (Elt F) (kM2.view.rep (expK X)) (pt2.sl.H1_4 X h29) = kM2.view.rep (final X) := by
    sl_unfold_run_names
    exact last_K whole2 _ _ _ _ _ _ _ _ _ _ _ _ _ _ _ _
  have e7 : pt2.sl.dma16 X h29 = final X := by
    sl_unfold_run_names
    exact (congrArg (kM2.view.read (Elt F)) (last_K whole2 (expK X) _ _ _ _ _ _ _ _ _ _ _ _ _ _ _)).trans (View.read_rep _ _)
  rw [e5, write_k whole0, e6, e7, pts_out, pts_k whole2, wp_ret]
  imodintro
  isplitl [HF3_dst]; · iexact HF3_dst
  isplitl [HF3]; · iexact HF3
  isplitl [Hs0]; · iexact Hs0
  isplitl [HF2_src]; · iexact HF2_src
  isplitl [HF2]; · iexact HF2
  isplitl [Hs5]; · iexact Hs5
  isplitl [H6]; · iexists _; iexact H6
  iexists _; iexact HW

end Cert.KernelIdeal.Sink
-- ==== Proof.Point3.lean ====
/-
  Point 3 of the grid: its body runs from the buffers and transfers it finds to those it leaves.
-/
module

public import proofs.«01_k».proof.Proof.Pieces

@[expose] public section

noncomputable section

namespace Cert.KernelIdeal.Sink

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

/-- The coordinates of point 3. -/
abbrev i3 : grid0.Coords := grid0.coords t0_3

set_option maxHeartbeats 1000000 in
/-- Point 3 of the grid, from the resources it takes to the resources it leaves. -/
theorem pt3 (c : Dev nD) (X : S2048x2048.Idx → Elt F .f32) (f1 : Buf (Elt F) (kM1.view.loc (c : Thread nD τ))) (f2 : Buf (Elt F) (kM2.view.loc (c : Thread nD τ))) (g1 : Buf (Elt F) (O1.view.loc (c : Thread nD τ))) (g2 : Buf (Elt F) (O2.view.loc (c : Thread nD τ))) (ft3 : Buf (Elt F) (T3.view.loc (c : Thread nD τ))) (fo : Buf (Elt F) (O3.view.loc (c : Thread nD τ)))
    (f6 : Buf (Elt F) (sM.view.loc (c : Thread nD τ))) (W : Waits sig Unit) :
    (iprop((Transfers.Flight countersEmb (c : Thread nD τ) (SemLoc.dma 0) () 524288 iprop((kM0.view.loc (c : Thread nD τ) ↦{fullShare} kM0.view.rep X) ∗ (T3.view.loc (c : Thread nD τ) ↦[T3.view.set]{fullShare} ft3)))
      ∗ (Transfers.Flight countersEmb (c : Thread nD τ) (SemLoc.dma 4) () 524288 iprop((O1.view.loc (c : Thread nD τ) ↦[O1.view.set]{fullShare} g1) ∗ (kM1.view.loc (c : Thread nD τ) ↦{fullShare} f1)))
      ∗ (Transfers.Flight countersEmb (c : Thread nD τ) (SemLoc.dma 5) () 524288 iprop((O2.view.loc (c : Thread nD τ) ↦[O2.view.set]{fullShare} g2) ∗ (kM2.view.loc (c : Thread nD τ) ↦{fullShare} f2)))
      ∗ (semVal ((c : Thread nD τ), SemLoc.dma 3) 0)
      ∗ ((O3.view.loc (c : Thread nD τ) ↦[O3.view.set]{fullShare} fo))
      ∗ ((sM.view.loc (c : Thread nD τ) ↦{fullShare} f6))
      ∗ (owes (c : Thread nD τ) 0 W)) : sProp 𝕄)
    ⊢ wp frame (wpE (defs₀ (F := F)) Variants.none (c : Thread nD τ) none) Set.univ (bodyAt0 (F := F) t0_3) (fun _ =>
      iprop(((T3.view.loc (c : Thread nD τ) ↦[T3.view.set]{fullShare} ft3))
        ∗ (semVal ((c : Thread nD τ), SemLoc.dma 0) 0)
        ∗ ((O1.view.loc (c : Thread nD τ) ↦[O1.view.set]{fullShare} g1))
        ∗ ((kM1.view.loc (c : Thread nD τ) ↦{fullShare} f1))
        ∗ (semVal ((c : Thread nD τ), SemLoc.dma 4) 0)
        ∗ ((O2.view.loc (c : Thread nD τ) ↦[O2.view.set]{fullShare} g2))
        ∗ ((kM2.view.loc (c : Thread nD τ) ↦{fullShare} f2))
        ∗ (semVal ((c : Thread nD τ), SemLoc.dma 5) 0)
        ∗ ((O3.view.loc (c : Thread nD τ) ↦[O3.view.set]{fullShare} O3.view.rep (final X)))
        ∗ ((kM0.view.loc (c : Thread nD τ) ↦{fullShare} kM0.view.rep (final X)))
        ∗ (semVal ((c : Thread nD τ), SemLoc.dma 3) 0)
        ∗ (∃ f6 : Buf (Elt F) (sM.view.loc (c : Thread nD τ)), (sM.view.loc (c : Thread nD τ) ↦{fullShare} f6))
        ∗ (∃ W : Waits sig Unit, owes (c : Thread nD τ) 0 W))) := by
  have h1 : k0_cond1 i3 = 1#1 := by decide +kernel
  have h2 : ¬ k0_cond2 i3 = 1#1 := by decide +kernel
  have h3 : ¬ k0_cond3 i3 = 1#1 := by decide +kernel
  have h4 : k0_cond4 i3 = 1#1 := by decide +kernel
  have h5 : k0_cond5 i3 = 1#1 := by decide +kernel
  have h6 : ¬ k0_cond6 i3 = 1#1 := by decide +kernel
  have h7 : ¬ k0_cond7 i3 = 1#1 := by decide +kernel
  have h8 : ¬ k0_cond8 i3 = 1#1 := by decide +kernel
  have h9 : ¬ k0_cond9 i3 = 1#1 := by decide +kernel
  have h10 : ¬ k0_cond10 i3 = 1#1 := by decide +kernel
  have h11 : k0_cond11 i3 = 1#1 := by decide +kernel
  have h12 : k0_cond12 i3 = 1#1 := by decide +kernel
  have h13 : k0_cond13 i3 = 1#1 := by decide +kernel
  have h14 : k0_cond14 i3 = 1#1 := by decide +kernel
  have h15 : ¬ k0_cond15 i3 = 1#1 := by decide +kernel
  have h29 : ¬ k0_cond29 i3 = 1#1 := by decide +kernel
  unfold bodyAt0
  sl_unfold [cc0__sinkhorn_kernel]
  iintro ⟨HF0, HF4, HF5, Hs3, Ho3, H6, HW⟩
  sl_exec
  have e1 : kM0.view.writes (Elt F) kM0.view.junk (pt3.sl.HF0_dst_4 X h1) = kM0.view.rep (expK X) := by
    sl_unfold_run_names
    exact init_K whole0 X _ _ _ _ _ _ _ _ _
  have e2 : k0_pay28 (F := F) (pt3.sl.r_3 X h1) (pt3.sl.r_4 X h1) = v0 X := by
    sl_unfold_run_names
    exact init_v kM0 X _ _ _ _ _
  rw [e1, e2]
  have ht : Scf.trips k0_t1_loop.lb k0_t1_loop.ub k0_t1_loop.st = 9 := by decide
  sl_for (inv kM0 c X) $$ [HF0_dst H6]
  · intro k acc
    iintro HI
    ihave ⟨H1, ⟨%g6, H6⟩, %hacc⟩ := inv_open kM0 c X k.val acc $$ HI
    subst hacc
    sl_exec
    rw [wp_ret]
    imodintro
    refine inv_succ kM0 c X k.val _ _ ?_ ?_
    · exact loop_s kM0 (expK X) _ _ _ _ _ _ _ _ _ _
    · sl_unfold_run_names
      exact loop_v kM0 (expK X) _ _ _ _ _
  · iapply inv_zero kM0 c X
    isplitl [HF0_dst]; · iexact HF0_dst
    iexact H6
  rw [ht]
  iintro %acc HI
  ihave ⟨H1, H6, %hacc⟩ := inv_last kM0 c X acc $$ HI
  subst hacc
  sl_exec
  have e6 : kM0.view.writes (Elt F) (kM0.view.rep (expK X)) (pt3.sl.H1_4 X h1) = kM0.view.rep (final X) := by
    sl_unfold_run_names
    exact last_K whole0 _ _ _ _ _ _ _ _ _ _ _ _ _ _ _ _
  have e7 : pt3.sl.dma16 X h1 = final X := by
    sl_unfold_run_names
    exact (congrArg (kM0.view.read (Elt F)) (last_K whole0 (expK X) _ _ _ _ _ _ _ _ _ _ _ _ _ _ _)).trans (View.read_rep _ _)
  rw [e6, e7, wp_ret]
  imodintro
  isplitl [HF0_src]; · iexact HF0_src
  isplitl [HF0]; · iexact HF0
  isplitl [HF4_dst]; · iexact HF4_dst
  isplitl [HF4_src]; · iexact HF4_src
  isplitl [HF4]; · iexact HF4
  isplitl [HF5_dst]; · iexact HF5_dst
  isplitl [HF5_src]; · iexact HF5_src
  isplitl [HF5]; · iexact HF5
  isplitl [Ho3]; · rw [← pts_out c O3 fo]; iexact Ho3
  isplitl [H1]; · iexact H1
  isplitl [Hs3]; · iexact Hs3
  isplitl [H6]; · iexists _; iexact H6
  iexists _; iexact HW

end Cert.KernelIdeal.Sink
-- ==== Proof.Launch.lean ====
/-
  The launch: what is held between the points of the grid, the four points put together, and the run of the program.
-/
module

public import proofs.«01_k».proof.Proof.Point0
public import proofs.«01_k».proof.Proof.Point1
public import proofs.«01_k».proof.Proof.Point2
public import proofs.«01_k».proof.Proof.Point3

@[expose] public section

noncomputable section

namespace Cert.KernelIdeal.Sink

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The contents -/

/-- A core's buffers when the launch begins. -/
abbrev V (c : Dev nD) (b : Ref sig .tc) : Buf (Elt F) ((c : Thread nD τ).loc b) := m ((c : Thread nD τ).loc b)

/-- Matrix `b` of an array of four. -/
def mat (b : Fin 4) (f : S4x2048x2048.Idx → Elt F .f32) : S2048x2048.Idx → Elt F .f32 := fun x => f (at3 b x)
/-- An element's place in its matrix. -/
def inMat (i : S4x2048x2048.Idx) : S2048x2048.Idx := fun a => (i a.succ : Fin (S4x2048x2048.size a.succ))
/-- The four normalised matrices. -/
def outv (f : S4x2048x2048.Idx → Elt F .f32) : S4x2048x2048.Idx → Elt F .f32 := fun i => final (mat (i 0) f) (inMat i)

/-- The contents the launch leaves: the result at the normalised matrices. -/
def G (c : Dev nD) : (b : Ref sig .tc) → Buf (Elt F) ((c : Thread nD τ).loc b) := Function.update (V m c) main_v0 (outv (V m c main_arg0))

/-- The result at the end is `outv` of the argument. -/
theorem G_out (c : Dev nD) : G m c main_v0 = outv (V m c main_arg0) := Function.update_self _ _ _

/-- The slab of the argument at matrix `b` reads as matrix `b`. -/
theorem read_mat (b : Fin 4) (h) (f : tM.view.ty.Contents (Elt F)) : (tS ![b.val, 0, 0] h).view.read (Elt F) f = mat b f := funext fun x => read_T b h f x

/-- The slab of the batch of results at matrix `b` reads as `final` of the argument's. -/
theorem read_outv (b : Fin 4) (h) (f : S4x2048x2048.Idx → Elt F .f32) : (oS ![b.val, 0, 0] h).view.read (Elt F) (outv f) = final (mat b f) := funext fun x => read_O b h (outv f) x

/-! ## The launch's cells and buffers -/

/-- The kernel's own cells. -/
abbrev osem0 : Fin 10 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9] : Fin 10 → SemLoc sig) j
/-- The launch's description of its pipeline. -/
abbrev spec0 := cfg0.spec
/-- The kernel's own cells are distinct, and none is the pipeline's. -/
theorem ownSemFacts0 : Pipeline.OwnSemFacts spec0 osem0 := by decide
/-- The buffer read, and the buffer written. -/
abbrev H0 : Finset (Ref sig .tc) := {main_arg0}
/-- The buffer written. -/
abbrev R0 : Finset (Ref sig .tc) := {main_v0}
/-- The buffer read is not one the pipeline moves. -/
theorem H0_sub : H0 ⊆ Pipeline.restRefs sig spec0 := by decide
/-- The buffer written is not one the pipeline moves, and is not the one read. -/
theorem R0_sub : R0 ⊆ Pipeline.restRefs sig spec0 \ H0 := by decide

/-- The program is the launch and nothing else. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The kernel's own cells, one by one. -/
theorem ownSems_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma 0) 0 ∗ semVal ((c : Thread nD τ), SemLoc.dma 1) 0 ∗ semVal ((c : Thread nD τ), SemLoc.dma 2) 0
      ∗ semVal ((c : Thread nD τ), SemLoc.dma 3) 0 ∗ semVal ((c : Thread nD τ), SemLoc.dma 4) 0 ∗ semVal ((c : Thread nD τ), SemLoc.dma 5) 0
      ∗ semVal ((c : Thread nD τ), SemLoc.dma 6) 0 ∗ semVal ((c : Thread nD τ), SemLoc.dma 7) 0 ∗ semVal ((c : Thread nD τ), SemLoc.dma 8) 0
      ∗ semVal ((c : Thread nD τ), SemLoc.dma 9) 0) := by
  rw [Pipeline.ownSems0_eq_of_list c osem0 [0, 1, 2, 3, 4, 5, 6, 7, 8, 9] (by decide) (by decide)]; rfl

/-- What is read is the argument. -/
theorem reads_eq (c : Dev nD) : (bigSep H0 fun b => (((c : Thread nD τ).loc b) ↦{fullShare} V m c b : sProp 𝕄))
    = (tM.view.loc (c : Thread nD τ) ↦{fullShare} V m c main_arg0) := by
  rw [BI.bigSep_eq_bigSepL_of_eq [main_arg0] (by decide) (by decide)]; rfl

/-- What is written is the result. -/
theorem writes_eq (c : Dev nD) (g : (b : Ref sig .tc) → Buf (Elt F) ((c : Thread nD τ).loc b)) : (Pipeline.routed R0 c g : sProp 𝕄)
    = (oM.view.loc (c : Thread nD τ) ↦{fullShare} g main_v0) := by
  unfold Pipeline.routed; rw [BI.bigSep_eq_bigSepL_of_eq [main_v0] (by decide) (by decide)]; rfl

/-- What is held before the first point and after the last, piece by piece. -/
theorem ends_eq (c : Dev nD) (g : (c : Dev nD) → (b : Ref sig .tc) → Buf (Elt F) ((c : Thread nD τ).loc b)) :
    (Pipeline.ΦDRG osem0 spec0 H0 R0 (V m) g c : sProp 𝕄)
      = iprop(((∃ f, (kM0.view.loc (c : Thread nD τ) ↦{fullShare} f)) ∗ (∃ f, (kM1.view.loc (c : Thread nD τ) ↦{fullShare} f))
        ∗ (∃ f, (kM2.view.loc (c : Thread nD τ) ↦{fullShare} f)) ∗ (∃ f, (sM.view.loc (c : Thread nD τ) ↦{fullShare} f)))
        ∗ (∃ r, prngReg c r)
        ∗ (semVal ((c : Thread nD τ), SemLoc.dma 0) 0 ∗ semVal ((c : Thread nD τ), SemLoc.dma 1) 0 ∗ semVal ((c : Thread nD τ), SemLoc.dma 2) 0
      ∗ semVal ((c : Thread nD τ), SemLoc.dma 3) 0 ∗ semVal ((c : Thread nD τ), SemLoc.dma 4) 0 ∗ semVal ((c : Thread nD τ), SemLoc.dma 5) 0
      ∗ semVal ((c : Thread nD τ), SemLoc.dma 6) 0 ∗ semVal ((c : Thread nD τ), SemLoc.dma 7) 0 ∗ semVal ((c : Thread nD τ), SemLoc.dma 8) 0
      ∗ semVal ((c : Thread nD τ), SemLoc.dma 9) 0)
        ∗ (tM.view.loc (c : Thread nD τ) ↦{fullShare} V m c main_arg0)
        ∗ (oM.view.loc (c : Thread nD τ) ↦{fullShare} g c main_v0)) := by
  rw [Pipeline.ΦDRG_eq, scopedRest0_eq, ownSems_eq, reads_eq, writes_eq]

/-! ## What is held between the points -/

/-- A slab of the argument, as launched; a slab of the result, as launched. -/
abbrev hT (c : Dev nD) (T : Memref sig .tc .hbm S2048x2048 .f32) (f : Buf (Elt F) (T.view.loc (c : Thread nD τ))) : sProp 𝕄 :=
  (T.view.loc (c : Thread nD τ) ↦[T.view.set]{fullShare} f)
/-- A matrix buffer at given values. -/
abbrev hK' (c : Dev nD) (k : Memref sig .tc .vmem S2048x2048 .f32) (X : S2048x2048.Idx → Elt F .f32) : sProp 𝕄 :=
  (k.view.loc (c : Thread nD τ) ↦{fullShare} k.view.rep X)
/-- A transfer into a matrix buffer from a slab of the argument, in flight. -/
abbrev loading (c : Dev nD) (n : DmaSem sig) (k : Memref sig .tc .vmem S2048x2048 .f32) (T : Memref sig .tc .hbm S2048x2048 .f32) (X : S2048x2048.Idx → Elt F .f32)
    (f : Buf (Elt F) (T.view.loc (c : Thread nD τ))) : sProp 𝕄 :=
  Transfers.Flight countersEmb (c : Thread nD τ) (SemLoc.dma n) () 524288 iprop((k.view.loc (c : Thread nD τ) ↦{fullShare} k.view.rep X) ∗ (T.view.loc (c : Thread nD τ) ↦[T.view.set]{fullShare} f))
/-- A transfer out of a matrix buffer into a slab of the result, in flight. -/
abbrev storing (c : Dev nD) (n : DmaSem sig) (k : Memref sig .tc .vmem S2048x2048 .f32) (O : Memref sig .tc .hbm S2048x2048 .f32) (X : S2048x2048.Idx → Elt F .f32) : sProp 𝕄 :=
  Transfers.Flight countersEmb (c : Thread nD τ) (SemLoc.dma n) () 524288 iprop((O.view.loc (c : Thread nD τ) ↦[O.view.set]{fullShare} O.view.rep X) ∗ (k.view.loc (c : Thread nD τ) ↦{fullShare} k.view.rep X))
/-- A cell at zero. -/
abbrev idle (c : Dev nD) (n : DmaSem sig) : sProp 𝕄 := semVal ((c : Thread nD τ), SemLoc.dma n) 0
/-- The column of row sums, the generator register and the row blocks' cells. -/
abbrev rest (c : Dev nD) : sProp 𝕄 :=
  iprop((∃ f, (sM.view.loc (c : Thread nD τ) ↦{fullShare} f)) ∗ (∃ r, prngReg c r)
    ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)

/-- After point 0: matrix 0's result is on its way out of buffer 0, matrix 1 on its way into buffer 1. -/
def Φ1 (c : Dev nD) : sProp 𝕄 :=
  iprop(rest c ∗ (∃ f, (kM2.view.loc (c : Thread nD τ) ↦{fullShare} f))
    ∗ hT c T0 (V m c main_arg0) ∗ hT c T2 (V m c main_arg0) ∗ hT c T3 (V m c main_arg0)
    ∗ hT c O1 (V m c main_v0) ∗ hT c O2 (V m c main_v0) ∗ hT c O3 (V m c main_v0)
    ∗ idle c 0 ∗ idle c 2 ∗ idle c 4 ∗ idle c 5
    ∗ loading c 1 kM1 T1 (T1.view.read (Elt F) (V m c main_arg0)) (V m c main_arg0)
    ∗ storing c 3 kM0 O0 (final (T0.view.read (Elt F) (V m c main_arg0))))
/-- After point 1: the results 0 and 1 are on their way out, matrix 2 on its way into buffer 2. -/
def Φ2 (c : Dev nD) : sProp 𝕄 :=
  iprop(rest c
    ∗ hT c T0 (V m c main_arg0) ∗ hT c T1 (V m c main_arg0) ∗ hT c T3 (V m c main_arg0)
    ∗ hT c O2 (V m c main_v0) ∗ hT c O3 (V m c main_v0)
    ∗ idle c 0 ∗ idle c 1 ∗ idle c 5
    ∗ loading c 2 kM2 T2 (T2.view.read (Elt F) (V m c main_arg0)) (V m c main_arg0)
    ∗ storing c 3 kM0 O0 (final (T0.view.read (Elt F) (V m c main_arg0)))
    ∗ storing c 4 kM1 O1 (final (T1.view.read (Elt F) (V m c main_arg0))))
/-- After point 2: result 0 is out, the results 1 and 2 on their way, matrix 3 on its way into buffer 0. -/
def Φ3 (c : Dev nD) : sProp 𝕄 :=
  iprop(rest c
    ∗ hT c T0 (V m c main_arg0) ∗ hT c T1 (V m c main_arg0) ∗ hT c T2 (V m c main_arg0)
    ∗ hT c O0 (O0.view.rep (final (T0.view.read (Elt F) (V m c main_arg0)))) ∗ hT c O3 (V m c main_v0)
    ∗ idle c 1 ∗ idle c 2 ∗ idle c 3
    ∗ loading c 0 kM0 T3 (T3.view.read (Elt F) (V m c main_arg0)) (V m c main_arg0)
    ∗ storing c 4 kM1 O1 (final (T1.view.read (Elt F) (V m c main_arg0)))
    ∗ storing c 5 kM2 O2 (final (T2.view.read (Elt F) (V m c main_arg0))))

/-- What is held before point `n`. -/
def held (c : Dev nD) : ℕ → sProp 𝕄
  | 0 => Pipeline.ΦDRG osem0 spec0 H0 R0 (V m) (V m) c
  | 1 => Φ1 m c
  | 2 => Φ2 m c
  | 3 => Φ3 m c
  | _ => Pipeline.ΦDRG osem0 spec0 H0 R0 (V m) (G m) c

/-- The run of one point. -/
abbrev runs (c : Dev nD) (t : Fin grid0.N) (Q : sProp 𝕄) : sProp 𝕄 :=
  wp frame (wpE (defs₀ (F := F)) Variants.none (c : Thread nD τ) none) Set.univ (bodyAt0 (F := F) t) (fun _ => Q)

/-- Point 0 leads from what is held at the start to what is held after it. -/
theorem step0 (c : Dev nD) (W : Waits sig Unit) : iprop(held m c 0 ∗ owes (c : Thread nD τ) 0 W) ⊢ runs c t0_0 iprop(held m c 1 ∗ ∃ W, owes (c : Thread nD τ) 0 W) := by
  show iprop(Pipeline.ΦDRG osem0 spec0 H0 R0 (V m) (V m) c ∗ _) ⊢ runs c t0_0 iprop(Φ1 m c ∗ _)
  rw [ends_eq]
  unfold Φ1
  iintro ⟨⟨⟨⟨%f0, K0⟩, ⟨%f1, K1⟩, K2, ⟨%f6, S⟩⟩, G, ⟨s0, s1, s2, s3, s4, s5, s6, s7, s8, s9⟩, T, O⟩, HW⟩
  ihave ⟨A0, A1, A2, A3⟩ := (rows c f0).1 $$ K0
  ihave ⟨T0, T1, T2, T3⟩ := (slabsT c (V m c main_arg0)).1 $$ T
  ihave ⟨C0, C1, C2, C3⟩ := (chunksT c (V m c main_arg0)).1 $$ T0
  ihave ⟨O0, O1, O2, O3⟩ := (slabsO c (V m c main_v0)).1 $$ O
  ihave Hr := pt0 c _ f0 (V m c main_arg0) f1 (V m c main_v0) f6 W rfl $$ [A0 A1 A2 A3 C0 C1 C2 C3 s6 s7 s8 s9 K1 T1 s1 s3 O0 S HW]
  · isplitl [A0]; · iexact A0
    isplitl [A1]; · iexact A1
    isplitl [A2]; · iexact A2
    isplitl [A3]; · iexact A3
    isplitl [C0]; · iexact C0
    isplitl [C1]; · iexact C1
    isplitl [C2]; · iexact C2
    isplitl [C3]; · iexact C3
    isplitl [s6]; · iexact s6
    isplitl [s7]; · iexact s7
    isplitl [s8]; · iexact s8
    isplitl [s9]; · iexact s9
    isplitl [K1]; · iexact K1
    isplitl [T1]; · iexact T1
    isplitl [s1]; · iexact s1
    isplitl [s3]; · iexact s3
    isplitl [O0]; · iexact O0
    isplitl [S]; · iexact S
    iexact HW
  iapply wp_wand $$ Hr
  iintro %_ ⟨C0, C1, C2, C3, s6, s7, s8, s9, L, O, S, HW⟩
  ihave T0 := (chunksT c (V m c main_arg0)).2 $$ [C0 C1 C2 C3]
  · isplitl [C0]; · iexact C0
    isplitl [C1]; · iexact C1
    isplitl [C2]; · iexact C2
    iexact C3
  isplitr [HW]
  swap; · iexact HW
  isplitl [S G s6 s7 s8 s9]
  · isplitl [S]; · iexact S
    isplitl [G]; · iexact G
    isplitl [s6]; · iexact s6
    isplitl [s7]; · iexact s7
    isplitl [s8]; · iexact s8
    iexact s9
  isplitl [K2]; · iexact K2
  isplitl [T0]; · iexact T0
  isplitl [T2]; · iexact T2
  isplitl [T3]; · iexact T3
  isplitl [O1]; · iexact O1
  isplitl [O2]; · iexact O2
  isplitl [O3]; · iexact O3
  isplitl [s0]; · iexact s0
  isplitl [s2]; · iexact s2
  isplitl [s4]; · iexact s4
  isplitl [s5]; · iexact s5
  isplitl [L]; · iexact L
  iexact O

/-- Point 1 leads from what is held before it to what is held after it. -/
theorem step1 (c : Dev nD) (W : Waits sig Unit) : iprop(held m c 1 ∗ owes (c : Thread nD τ) 0 W) ⊢ runs c t0_1 iprop(held m c 2 ∗ ∃ W, owes (c : Thread nD τ) 0 W) := by
  show iprop(Φ1 m c ∗ _) ⊢ runs c t0_1 iprop(Φ2 m c ∗ _)
  unfold Φ1 Φ2
  iintro ⟨⟨⟨⟨%f6, S⟩, R⟩, ⟨%f2, K2⟩, T0, T2, T3, O1, O2, O3, s0, s2, s4, s5, L, F0⟩, HW⟩
  ihave Hr := pt1 c _ f2 (V m c main_arg0) (V m c main_arg0) (V m c main_v0) f6 W $$ [L K2 T2 s2 s4 O1 S HW]
  · isplitl [L]; · iexact L
    isplitl [K2]; · iexact K2
    isplitl [T2]; · iexact T2
    isplitl [s2]; · iexact s2
    isplitl [s4]; · iexact s4
    isplitl [O1]; · iexact O1
    isplitl [S]; · iexact S
    iexact HW
  iapply wp_wand $$ Hr
  iintro %_ ⟨L, T1, s1, F1, S, HW⟩
  isplitr [HW]
  swap; · iexact HW
  isplitl [S R]
  · isplitl [S]; · iexact S
    iexact R
  isplitl [T0]; · iexact T0
  isplitl [T1]; · iexact T1
  isplitl [T3]; · iexact T3
  isplitl [O2]; · iexact O2
  isplitl [O3]; · iexact O3
  isplitl [s0]; · iexact s0
  isplitl [s1]; · iexact s1
  isplitl [s5]; · iexact s5
  isplitl [L]; · iexact L
  isplitl [F0]; · iexact F0
  iexact F1

/-- Point 2 leads from what is held before it to what is held after it. -/
theorem step2 (c : Dev nD) (W : Waits sig Unit) : iprop(held m c 2 ∗ owes (c : Thread nD τ) 0 W) ⊢ runs c t0_2 iprop(held m c 3 ∗ ∃ W, owes (c : Thread nD τ) 0 W) := by
  show iprop(Φ2 m c ∗ _) ⊢ runs c t0_2 iprop(Φ3 m c ∗ _)
  unfold Φ2 Φ3
  iintro ⟨⟨⟨⟨%f6, S⟩, R⟩, T0, T1, T3, O2, O3, s0, s1, s5, L, F0, F1⟩, HW⟩
  ihave Hr := pt2 c _ _ _ (V m c main_arg0) (V m c main_arg0) (V m c main_v0) f6 W $$ [F0 L T3 s0 s5 O2 S HW]
  · isplitl [F0]; · iexact F0
    isplitl [L]; · iexact L
    isplitl [T3]; · iexact T3
    isplitl [s0]; · iexact s0
    isplitl [s5]; · iexact s5
    isplitl [O2]; · iexact O2
    isplitl [S]; · iexact S
    iexact HW
  iapply wp_wand $$ Hr
  iintro %_ ⟨O0, s3, L, T2, s2, F2, S, HW⟩
  isplitr [HW]
  swap; · iexact HW
  isplitl [S R]
  · isplitl [S]; · iexact S
    iexact R
  isplitl [T0]; · iexact T0
  isplitl [T1]; · iexact T1
  isplitl [T2]; · iexact T2
  isplitl [O0]; · iexact O0
  isplitl [O3]; · iexact O3
  isplitl [s1]; · iexact s1
  isplitl [s2]; · iexact s2
  isplitl [s3]; · iexact s3
  isplitl [L]; · iexact L
  isplitl [F1]; · iexact F1
  iexact F2

/-- A slab of the result at its normalised matrix is that slab of the contents the launch leaves. -/
theorem slab_out (c : Dev nD) (b : Fin 4) (h) :
    ((oS ![b.val, 0, 0] h).view.loc (c : Thread nD τ) ↦[(oS ![b.val, 0, 0] h).view.set]{fullShare} (oS ![b.val, 0, 0] h).view.rep (final ((tS ![b.val, 0, 0] h).view.read (Elt F) (V m c main_arg0))) : sProp 𝕄)
      ⊢ ((oS ![b.val, 0, 0] h).view.loc (c : Thread nD τ) ↦[(oS ![b.val, 0, 0] h).view.set]{fullShare} (outv (V m c main_arg0) : Buf (Elt F) ((oS ![b.val, 0, 0] h).view.loc (c : Thread nD τ)))) := by
  rw [read_mat b h, ← read_outv b h]
  exact Entails.of_eq (pointsTo_rep (Ix := Unit) (Name := ℕ) (U := Pipeline.UD sig nD τ) (Lvl := ℕ) (c : Thread nD τ) (oS ![b.val, 0, 0] h) _ fullShare).symm

/-- Point 3 leads from what is held before it to what is held at the end. -/
theorem step3 (c : Dev nD) (W : Waits sig Unit) : iprop(held m c 3 ∗ owes (c : Thread nD τ) 0 W) ⊢ runs c t0_3 iprop(held m c 4 ∗ ∃ W, owes (c : Thread nD τ) 0 W) := by
  show iprop(Φ3 m c ∗ _) ⊢ runs c t0_3 iprop(Pipeline.ΦDRG osem0 spec0 H0 R0 (V m) (G m) c ∗ _)
  rw [ends_eq, G_out]
  unfold Φ3
  iintro ⟨⟨⟨⟨%f6, S⟩, R, s6, s7, s8, s9⟩, T0, T1, T2, O0, O3, s1, s2, s3, L, F1, F2⟩, HW⟩
  ihave Hr := pt3 c _ _ _ _ _ (V m c main_arg0) (V m c main_v0) f6 W $$ [L F1 F2 s3 O3 S HW]
  · isplitl [L]; · iexact L
    isplitl [F1]; · iexact F1
    isplitl [F2]; · iexact F2
    isplitl [s3]; · iexact s3
    isplitl [O3]; · iexact O3
    isplitl [S]; · iexact S
    iexact HW
  iapply wp_wand $$ Hr
  iintro %_ ⟨T3, s0, O1, K1, s4, O2, K2, s5, O3, K0, s3, S, HW⟩
  isplitr [HW]
  swap; · iexact HW
  isplitl [K0 K1 K2 S]
  · isplitl [K0]; · iexists _; iexact K0
    isplitl [K1]; · iexists _; iexact K1
    isplitl [K2]; · iexists _; iexact K2
    iexact S
  isplitl [R]; · iexact R
  isplitl [s0 s1 s2 s3 s4 s5 s6 s7 s8 s9]
  · isplitl [s0]; · iexact s0
    isplitl [s1]; · iexact s1
    isplitl [s2]; · iexact s2
    isplitl [s3]; · iexact s3
    isplitl [s4]; · iexact s4
    isplitl [s5]; · iexact s5
    isplitl [s6]; · iexact s6
    isplitl [s7]; · iexact s7
    isplitl [s8]; · iexact s8
    iexact s9
  isplitl [T0 T1 T2 T3]
  · iapply (slabsT c (V m c main_arg0)).2
    isplitl [T0]; · iexact T0
    isplitl [T1]; · iexact T1
    isplitl [T2]; · iexact T2
    iexact T3
  iapply (slabsO c (outv (V m c main_arg0))).2
  isplitl [O0]; · iapply (slab_out m c 0 inbS0); iexact O0
  isplitl [O1]; · iapply (slab_out m c 1 inbS1); iexact O1
  isplitl [O2]; · iapply (slab_out m c 2 inbS2); iexact O2
  iapply (slab_out m c 3 inbS3); iexact O3

/-! ## The launch -/

/-- The proof data of the launch: no window is staged; `held` is what is held between the points. -/
def dats (_ : Fin 1) (c : Dev nD) : Dat τ (Elt F) Unit ℕ (Pipeline.UD sig nD τ) ℕ cfg0 c where
  A w := V m c (Pipeline.arrRef spec0 w)
  after w := w.elim0
  Φ p := held m c p.val
  q _ := fullShare
  owed _ := 0

/-- The arrays the pipeline starts from are the ones in memory. -/
theorem A_eq (c : Dev nD) (w : Fin cfg0.W) : (dats m 0 c).A w = V m c (Pipeline.arrRef spec0 w) := by
  dsimp only [dats]

/-- Every point leads from what is held before it to what is held after it. -/
theorem step (c : Dev nD) (t : Fin cfg0.N) (W : Waits sig Unit) : iprop(held m c t.val ∗ owes (c : Thread nD τ) 0 W) ⊢ runs c t iprop(held m c (t.val + 1) ∗ ∃ W, owes (c : Thread nD τ) 0 W) := by
  rcases fin_N0 t with rfl | rfl | rfl | rfl
  · exact step0 m c W
  · exact step1 m c W
  · exact step2 m c W
  · exact step3 m c W

/-- A point's run, in the form the pipeline asks for. -/
theorem sound_body (c : Dev nD) (t : Fin cfg0.N) :
    iprop((dats m 0 c).Φ t.castSucc ∗ (dats m 0 c).owesAt () t.castSucc) ⊢ runs c t iprop((dats m 0 c).Φ t.succ ∗ (dats m 0 c).owesAt () t.succ) := by
  rw [show (dats m 0 c).Φ t.castSucc = held m c t.val from rfl, show (dats m 0 c).Φ t.succ = held m c (t.val + 1) from rfl]
  unfold Dat.owesAt Pipeline.owesWithin
  rw [show (dats m 0 c).owed t.castSucc = 0 from rfl, show (dats m 0 c).owed t.succ = 0 from rfl]
  iintro ⟨H, ⟨%W, -, HW⟩⟩
  ihave Hr := step m c t W $$ [H HW]
  · isplitl [H]; · iexact H
    iexact HW
  iapply wp_wand $$ Hr
  iintro %_ ⟨H, ⟨%W', HW⟩⟩
  isplitl [H]; · iexact H
  iexists W'; isplitr; · ipureintro; exact fun _ _ => Or.inl trivial
  iexact HW

/-- The body called at a point is the body at that point. -/
theorem defs₀_row (t : Fin cfg0.N) :
    defs₀ (F := F) .tc cfg0.body (cfg0.bodyArgs t (cfg0.slots t)) = bodyAt0 t := by
  unfold defs₀; rw [Defs.onTc_tc]

/-- What the pipeline asks of the body holds at every point. -/
theorem body_obligation (c : Dev nD) : BodyObligation (dats (F := F) m 0 c) (defs₀ (F := F)) Variants.none () Set.univ := fun t => by
  rw [bigSep_eq_bigSepL_of_eq [] (by decide) (by decide), bigSep_eq_bigSepL_of_eq [] (by decide) (by decide), defs₀_row]
  iintro ⟨H, HW, He⟩
  ihave Hr := sound_body m c t $$ [H HW]
  · isplitl [H]; · iexact H
    iexact HW
  iapply wp_wand $$ Hr
  iintro %_ ⟨H, HW⟩
  isplitl [H]; · iexact H
  isplitl [HW]; · iexact HW
  iexact He

set_option backward.isDefEq.respectTransparency.types false in
/-- The run: the program ends, the argument as it was, the result at the normalised matrices, every counter at zero. -/
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (G := G m) (hin := fun _ => .rfl) (hout := fun _ => .rfl)

/-- The run, read at the argument and at the result. -/
theorem run_values : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v0) = outv (m ((c.tc : Thread nD τ).loc main_arg0)))
      ∧ r.2.sem = fun _ => 0) :=
  (θ_run defs _ _).mono (fun r h => ⟨fun c => ⟨(h.1.toR c).2 main_arg0 (Finset.mem_sdiff.mpr ⟨Pipeline.mem_restRefs_of main_arg0 (by decide) (by decide), by decide⟩),
    (Pipeline.FramePostRG.written h.1 c (by decide : main_v0 ∈ R0)).trans (G_out m c)⟩, h.2⟩) (run_main m ρ)

/-- The frame: the program ends, the argument as it was, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => (h.1 c).1, h.2⟩) (run_values m ρ)

end Cert.KernelIdeal.Sink

end
-- ==== Proof.Twin.lean ====
/-
  The program as printed and its idealization are one text: the run proved of the second, at any floats, is the run of
  the first.
-/
module

public import proofs.«01_k».proof.Proof.Launch
public import proofs.«01_k».proof.Proof.Gen.Kernel

@[expose] public section

noncomputable section

namespace Cert.Kernel.Sink

open Cert.Kernel Cert.Kernel.Gen
open Idealize.ShloMosaic Idealize.ShloMosaic.TcCoe
open Idealize.SL.Sem

variable {F : FTy → Type} [FloatOps F]

set_option maxRecDepth 16384 in
/-- The frame of the program as printed: it ends, the argument as it was, every counter at zero. -/
theorem frame_run (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  Cert.KernelIdeal.Sink.frame_run m ρ

end Cert.Kernel.Sink

end
-- ==== Proof.Algebra.lean ====
/-
  The iteration over extended non-negative reals: dividing a matrix by its row sums, then by its column sums, over
  and over, is one matrix scaled by a column and a row, whatever entries are zero or infinite.
-/
module

public import Mathlib.Data.ENNReal.BigOperators
public import Mathlib.Data.EReal.Inv
public import Idealize.ShloMosaic.PureOps.Ideal

@[expose] public section

noncomputable section

namespace Cert.Sink

open scoped ENNReal

section Iteration
variable {ι κ : Type} [Fintype ι] [Fintype κ]

/-- The row sums of `K` with its columns scaled by `v`. -/
def rsum (K : ι → κ → ℝ≥0∞) (v : κ → ℝ≥0∞) (i : ι) : ℝ≥0∞ := ∑ j, K i j * v j
/-- `K` with its rows divided by those sums. -/
def rdiv (K : ι → κ → ℝ≥0∞) (v : κ → ℝ≥0∞) (i : ι) (j : κ) : ℝ≥0∞ := K i j * (rsum K v i)⁻¹
/-- One step of the scaling row. -/
def next (K : ι → κ → ℝ≥0∞) (v : κ → ℝ≥0∞) (j : κ) : ℝ≥0∞ := (∑ i, rdiv K v i j)⁻¹
/-- The scaling row after `k` steps, from the row of ones. -/
def row (K : ι → κ → ℝ≥0∞) : ℕ → κ → ℝ≥0∞
  | 0 => 1
  | k + 1 => next K (row K k)
/-- A matrix divided by its row sums. -/
def normR (M : ι → κ → ℝ≥0∞) (i : ι) (j : κ) : ℝ≥0∞ := M i j * (∑ j, M i j)⁻¹
/-- A matrix divided by its column sums. -/
def normC (M : ι → κ → ℝ≥0∞) (i : ι) (j : κ) : ℝ≥0∞ := M i j * (∑ i, M i j)⁻¹
/-- The matrix after `k` passes over rows and columns. -/
def pass (K : ι → κ → ℝ≥0∞) : ℕ → ι → κ → ℝ≥0∞
  | 0 => K
  | k + 1 => normC (normR (pass K k))

/-- A scaling row is nowhere zero, and infinite only in columns whose every entry is zero or lies in a row with an
    infinite entry. -/
def Good (K : ι → κ → ℝ≥0∞) (v : κ → ℝ≥0∞) : Prop :=
  ∀ j, v j ≠ 0 ∧ (v j = ⊤ → ∀ i, K i j = 0 ∨ ∃ j', K i j' = ⊤)

variable {K : ι → κ → ℝ≥0∞} {v : κ → ℝ≥0∞}

/-- The row of ones is good. -/
theorem good_one : Good K 1 := fun j => ⟨one_ne_zero, fun h => absurd h ENNReal.one_ne_top⟩

/-- A row with an infinite entry has an infinite sum. -/
theorem rsum_top (hv : Good K v) (i : ι) (h : ∃ j, K i j = ⊤) : rsum K v i = ⊤ := by
  obtain ⟨j, h⟩ := h
  exact ENNReal.sum_eq_top.mpr ⟨j, Finset.mem_univ _, by rw [h]; exact ENNReal.top_mul (hv j).1⟩

/-- A row without one has a finite sum. -/
theorem rsum_ne_top (hv : Good K v) (i : ι) (h : ¬∃ j, K i j = ⊤) : rsum K v i ≠ ⊤ := by
  intro e
  obtain ⟨j, -, e⟩ := ENNReal.sum_eq_top.mp e
  have hK : K i j ≠ ⊤ := fun hK => h ⟨j, hK⟩
  rcases ENNReal.mul_eq_top.mp e with ⟨h0, ht⟩ | ⟨ht, -⟩
  · rcases (hv j).2 ht i with h' | h'
    · exact h0 h'
    · exact h h'
  · exact hK ht

/-- A row of sum zero is zero. -/
theorem rsum_zero (hv : Good K v) (i : ι) (h : rsum K v i = 0) (j : κ) : K i j = 0 := by
  have := Finset.sum_eq_zero_iff.mp h j (Finset.mem_univ _)
  exact (mul_eq_zero.mp this).resolve_right (hv j).1

/-- The divided rows are finite. -/
theorem rdiv_ne_top (hv : Good K v) (i : ι) (j : κ) : rdiv K v i j ≠ ⊤ := by
  unfold rdiv
  by_cases h : ∃ j, K i j = ⊤
  · rw [rsum_top hv i h]; simp
  · by_cases h0 : rsum K v i = 0
    · rw [rsum_zero hv i h0 j]; simp
    · exact ENNReal.mul_ne_top (fun hK => h ⟨j, hK⟩) (ENNReal.inv_ne_top.mpr h0)

/-- A divided row's entry is zero only where the entry is, or its row has an infinite entry. -/
theorem rdiv_zero (hv : Good K v) (i : ι) (j : κ) (h : rdiv K v i j = 0) : K i j = 0 ∨ ∃ j', K i j' = ⊤ := by
  rcases mul_eq_zero.mp h with h | h
  · exact .inl h
  · by_contra hn
    exact rsum_ne_top hv i (fun hj => hn (.inr hj)) (ENNReal.inv_eq_zero.mp h)

/-- The converse. -/
theorem rdiv_of (hv : Good K v) (i : ι) (j : κ) (h : K i j = 0 ∨ ∃ j', K i j' = ⊤) : rdiv K v i j = 0 := by
  unfold rdiv
  rcases h with h | h
  · rw [h, zero_mul]
  · rw [rsum_top hv i h]; simp

/-- A step keeps a scaling row good. -/
theorem good_next (hv : Good K v) : Good K (next K v) := fun j => by
  constructor
  · exact ENNReal.inv_ne_zero.mpr (ENNReal.sum_ne_top.mpr fun i _ => rdiv_ne_top hv i j)
  · intro h i
    exact rdiv_zero hv i j (Finset.sum_eq_zero_iff.mp (ENNReal.inv_eq_top.mp h) i (Finset.mem_univ _))

/-- The scales after any number of steps are good for the matrix. -/
theorem good_row (k : ℕ) : Good K (row K k) := by
  induction k with
  | zero => exact good_one
  | succ k ih => exact good_next ih

/-- Dividing the scaled matrix by its row sums: the rows divided anew, then scaled by the row. -/
theorem normR_scaled (hv : Good K v) {v' : κ → ℝ≥0∞} (hv' : Good K v') (i : ι) (j : κ) :
    normR (fun i j => rdiv K v i j * v' j) i j = rdiv K v' i j * v' j := by
  show rdiv K v i j * v' j * (∑ j, rdiv K v i j * v' j)⁻¹ = _
  by_cases h : ∃ j, K i j = ⊤
  · rw [rdiv_of hv i j (.inr h), rdiv_of hv' i j (.inr h)]; simp
  · by_cases h0 : rsum K v i = 0
    · have := rsum_zero hv i h0 j
      rw [rdiv_of hv i j (.inl this), rdiv_of hv' i j (.inl this)]; simp
    · have ht := rsum_ne_top hv i h
      have e : ∑ j, rdiv K v i j * v' j = (rsum K v i)⁻¹ * rsum K v' i := by
        unfold rdiv rsum
        rw [Finset.mul_sum]
        exact Finset.sum_congr rfl fun j _ => by ring
      rw [e, ENNReal.mul_inv (.inl (ENNReal.inv_ne_zero.mpr ht)) (.inl (ENNReal.inv_ne_top.mpr h0)), inv_inv]
      unfold rdiv
      calc K i j * (rsum K v i)⁻¹ * v' j * (rsum K v i * (rsum K v' i)⁻¹)
          = K i j * (rsum K v' i)⁻¹ * v' j * (rsum K v i * (rsum K v i)⁻¹) := by ring
        _ = _ := by rw [ENNReal.mul_inv_cancel h0 ht, mul_one]

/-- Dividing that by its column sums: the divided rows scaled by the next row. -/
theorem normC_scaled (hv : Good K v) (i : ι) (j : κ) :
    normC (fun i j => rdiv K v i j * v j) i j = rdiv K v i j * next K v j := by
  show rdiv K v i j * v j * (∑ i, rdiv K v i j * v j)⁻¹ = rdiv K v i j * (∑ i, rdiv K v i j)⁻¹
  by_cases ht : v j = ⊤
  · rw [rdiv_of hv i j ((hv j).2 ht i)]; simp
  · have h0 := (hv j).1
    rw [← Finset.sum_mul, ENNReal.mul_inv (.inr ht) (.inr h0)]
    calc rdiv K v i j * v j * ((∑ i, rdiv K v i j)⁻¹ * (v j)⁻¹)
        = rdiv K v i j * (∑ i, rdiv K v i j)⁻¹ * (v j * (v j)⁻¹) := by ring
      _ = _ := by rw [ENNReal.mul_inv_cancel h0 ht, mul_one]

/-- The matrix after `k + 1` passes: its rows divided by the sums at the row after `k` steps, scaled by the row after
    `k + 1`. -/
theorem pass_eq (k : ℕ) : pass K (k + 1) = fun i j => rdiv K (row K k) i j * row K (k + 1) j := by
  induction k with
  | zero =>
    have e : normR K = fun i j => rdiv K (row K 0) i j * row K 0 j := by
      funext i j; simp [normR, rdiv, rsum, row]
    show normC (normR K) = _
    rw [e]; funext i j; exact normC_scaled good_one i j
  | succ k ih =>
    show normC (normR (pass K (k + 1))) = _
    have e : normR (pass K (k + 1)) = fun i j => rdiv K (row K (k + 1)) i j * row K (k + 1) j := by
      rw [ih]; funext i j; exact normR_scaled (good_row k) (good_row (k + 1)) i j
    rw [e]; funext i j; exact normC_scaled (good_row (k + 1)) i j

end Iteration

/-! ## The operations on extended reals -/

open Idealize.ShloMosaic

/-- The exponential, as an extended non-negative real. -/
def eexp : EReal → ℝ≥0∞
  | ⊥ => 0
  | ⊤ => ⊤
  | (r : ℝ) => ENNReal.ofReal (Real.exp r)

/-- The exponential of an extended real is the extended non-negative real `eexp` names. -/
theorem exp_coe (x : EReal) : Ideal.exp x = ((eexp x : ℝ≥0∞) : EReal) := by
  induction x with
  | bot => exact EReal.coe_ennreal_zero.symm
  | top => exact EReal.coe_ennreal_top.symm
  | coe r => exact (EReal.coe_ennreal_ofReal.trans (congrArg _ (max_eq_left (Real.exp_pos r).le))).symm

/-- The logarithm of an extended non-negative real. -/
def elog (x : ℝ≥0∞) : EReal := Ideal.log (x : EReal)

/-- The logarithm of zero is minus infinity. -/
theorem elog_zero : elog 0 = ⊥ := by
  show Ideal.log ((0 : ℝ≥0∞) : EReal) = ⊥
  rw [EReal.coe_ennreal_zero]; exact if_pos le_rfl
/-- The logarithm of infinity is infinity. -/
theorem elog_top : elog ⊤ = ⊤ := rfl
/-- The logarithm of a positive real is the real's. -/
theorem elog_pos {r : ℝ} (h : 0 < r) : elog (ENNReal.ofReal r) = (Real.log r : ℝ) := by
  show Ideal.log ((ENNReal.ofReal r : ℝ≥0∞) : EReal) = _
  rw [EReal.coe_ennreal_ofReal, max_eq_left h.le]; exact if_neg (not_le.mpr h)

/-- Every extended non-negative real is zero, infinite, or a positive real. -/
theorem nonneg_cases (S : ℝ≥0∞) : S = 0 ∨ S = ⊤ ∨ ∃ r : ℝ, 0 < r ∧ S = ENNReal.ofReal r := by
  by_cases h0 : S = 0
  · exact .inl h0
  by_cases ht : S = ⊤
  · exact .inr (.inl ht)
  exact .inr (.inr ⟨S.toReal, ENNReal.toReal_pos h0 ht, (ENNReal.ofReal_toReal ht).symm⟩)

/-- The reciprocal of an extended non-negative real. -/
theorem inv_coe (x : ℝ≥0∞) : Ideal.div 1 (x : EReal) = ((x⁻¹ : ℝ≥0∞) : EReal) := by
  unfold Ideal.div
  rcases nonneg_cases x with rfl | rfl | ⟨r, hr, rfl⟩
  · rw [EReal.coe_ennreal_zero, if_pos rfl, if_pos zero_lt_one, ENNReal.inv_zero, EReal.coe_ennreal_top]
  · rw [EReal.coe_ennreal_top, if_neg EReal.top_ne_zero, EReal.inv_top, mul_zero, ENNReal.inv_top, EReal.coe_ennreal_zero]
  · have h : ((ENNReal.ofReal r : ℝ≥0∞) : EReal) = (r : EReal) := EReal.coe_ennreal_ofReal.trans (congrArg _ (max_eq_left hr.le))
    have h' : ((ENNReal.ofReal r⁻¹ : ℝ≥0∞) : EReal) = ((r⁻¹ : ℝ) : EReal) := EReal.coe_ennreal_ofReal.trans (congrArg _ (max_eq_left (inv_pos.mpr hr).le))
    rw [← ENNReal.ofReal_inv_of_pos hr, h, h', if_neg (by exact_mod_cast hr.ne'), one_mul, EReal.coe_inv]

/-- A sum of extended non-negative reals. -/
theorem sum_coe {ι : Type} (s : Finset ι) (f : ι → ℝ≥0∞) : ∑ i ∈ s, ((f i : ℝ≥0∞) : EReal) = ((∑ i ∈ s, f i : ℝ≥0∞) : EReal) := by
  classical
  induction s using Finset.induction_on with
  | empty => simp
  | insert a s ha ih => rw [Finset.sum_insert ha, Finset.sum_insert ha, ih, EReal.coe_ennreal_add]

/-- An extended non-negative real is its own absolute value. -/
theorem abs_coe (x : ℝ≥0∞) : max (x : EReal) (-(x : EReal)) = x :=
  max_eq_left ((EReal.neg_le_zero.mpr (EReal.coe_ennreal_nonneg x)).trans (EReal.coe_ennreal_nonneg x))

/-- The exponential of a value shifted by a real number. -/
theorem eexp_shift (x : EReal) (a : ℝ) : eexp (x - a) = eexp x * ENNReal.ofReal (Real.exp (-a)) := by
  induction x with
  | bot => rw [EReal.bot_sub]; exact (zero_mul _).symm
  | top =>
    rw [EReal.top_sub_coe]
    exact (ENNReal.top_mul (by rw [Ne, ENNReal.ofReal_eq_zero, not_le]; exact Real.exp_pos _)).symm
  | coe r =>
    rw [← EReal.coe_sub]
    show ENNReal.ofReal _ = ENNReal.ofReal _ * _
    rw [← ENNReal.ofReal_mul (Real.exp_pos r).le, ← Real.exp_add, sub_eq_add_neg]

/-- The logarithm of a value scaled by the exponential of a real number, the number added back. -/
theorem elog_shift (S : ℝ≥0∞) (a : ℝ) : elog (S * ENNReal.ofReal (Real.exp (-a))) + a = elog S := by
  have hp : ENNReal.ofReal (Real.exp (-a)) ≠ 0 := by rw [Ne, ENNReal.ofReal_eq_zero, not_le]; exact Real.exp_pos _
  rcases nonneg_cases S with rfl | rfl | ⟨r, hr, rfl⟩
  · rw [zero_mul, elog_zero, EReal.bot_add]
  · rw [ENNReal.top_mul hp, elog_top, EReal.top_add_coe]
  · rw [← ENNReal.ofReal_mul hr.le, elog_pos (mul_pos hr (Real.exp_pos _)), elog_pos hr, ← EReal.coe_add,
      Real.log_mul hr.ne' (Real.exp_pos _).ne', Real.log_exp, neg_add_cancel_right]

/-- The logarithm of a sum of exponentials shifted by a real number, the number added back. -/
theorem log_shift {ι : Type} (s : Finset ι) (L : ι → EReal) (a : ℝ) :
    elog (∑ i ∈ s, eexp (L i - a)) + a = elog (∑ i ∈ s, eexp (L i)) := by
  rw [Finset.sum_congr rfl fun i _ => eexp_shift (L i) a, ← Finset.sum_mul, elog_shift]

/-- Subtracting a logarithm divides the exponential. -/
theorem exp_sub_log (x : EReal) (S : ℝ≥0∞) : eexp (x - elog S) = eexp x * S⁻¹ := by
  rcases nonneg_cases S with rfl | rfl | ⟨r, hr, rfl⟩
  · rw [elog_zero, ENNReal.inv_zero]
    induction x with
    | bot => exact (zero_mul _).symm
    | top => exact (ENNReal.top_mul ENNReal.top_ne_zero).symm
    | coe r => exact (ENNReal.mul_top (by show ENNReal.ofReal _ ≠ 0; rw [Ne, ENNReal.ofReal_eq_zero, not_le]; exact Real.exp_pos r)).symm
  · rw [elog_top, EReal.sub_top, ENNReal.inv_top, mul_zero]; rfl
  · rw [elog_pos hr, eexp_shift, Real.exp_neg, Real.exp_log hr, ENNReal.ofReal_inv_of_pos hr]

end Cert.Sink

end
-- ==== Proof.RefValue.lean ====
/-
  What the reference computes over the extended reals. Each of its half passes subtracts the logarithm of a sum of
  exponentials along one axis: the exponentials of what is left are the exponentials before divided by their sums.
-/
module

public import proofs.«01_k».proof.Proof.Gen.ReferenceIdeal.Run
public import proofs.«01_k».proof.Proof.Algebra
public import Idealize.ShloMosaic.Lib.Pointwise
public import Idealize.ShloMosaic.Lib.IdealHost

@[expose] public section

noncomputable section

namespace Cert.ReferenceIdeal.Sink

open Cert.ReferenceIdeal Cert.ReferenceIdeal.Gen Cert.ReferenceIdeal.Value Cert.Sink
open Idealize.ShloMosaic Idealize.ShloMosaic.TcCoe Idealize.ShloMosaic.StableHlo Idealize.SL.Sem
open scoped ENNReal

/-- A batch of matrices, and a number for each of its rows and for each of its columns. -/
abbrev Batch := FVec Ideal S4x2048x2048 .f32
/-- A number for each row. -/
abbrev Rows := FVec Ideal S4x2048x1 .f32
/-- A number for each column. -/
abbrev Cols := FVec Ideal S4x1x2048 .f32

/-- The largest element of each row, and of each column. -/
def rowMax (L : Batch) : Rows :=
  broadcastInDim S4x2048x1 ![0, 1] bcast_S4x2048_S4x2048x1_0_1 (Host.reduce FloatOps.maximumf L (constant S_ .f32 0xFF800000#32) reducesTo_S4x2048x2048_S4x2048_d2 h_S_)
/-- The largest element of each column. -/
def colMax (L : Batch) : Cols :=
  broadcastInDim S4x1x2048 ![0, 2] bcast_S4x2048_S4x1x2048_0_2 (Host.reduce FloatOps.maximumf L (constant S_ .f32 0xFF800000#32) reducesTo_S4x2048x2048_S4x2048_d1 h_S_)
/-- What the exponents are shifted by: the largest element, or zero where that is infinite. -/
def rowShift (x : Rows) : Rows :=
  select (cmpf .olt (Host.absf x) (broadcastInDim S4x2048x1 ![] bcast_S_S4x2048x1 (constant S_ .f32 0x7F800000#32))) x (broadcastInDim S4x2048x1 ![] bcast_S_S4x2048x1 (id (constant S_ .f32 0x00000000#32)))
/-- The same for the columns. -/
def colShift (x : Cols) : Cols :=
  select (cmpf .olt (Host.absf x) (broadcastInDim S4x1x2048 ![] bcast_S_S4x1x2048 (constant S_ .f32 0x7F800000#32))) x (broadcastInDim S4x1x2048 ![] bcast_S_S4x1x2048 (id (constant S_ .f32 0x00000000#32)))
/-- The batch less the logarithms of its rows' sums of exponentials, shifted by `a`. -/
def rowSub (L : Batch) (a : Rows) : Batch :=
  subf L (broadcastInDim S4x2048x2048 ![0, 1, 2] bcast_S4x2048x1_S4x2048x2048_0_1_2 (addf (Host.log (broadcastInDim S4x2048x1 ![0, 1] bcast_S4x2048_S4x2048x1_0_1 (Host.reduceAdd (Host.exp (subf L (broadcastInDim S4x2048x2048 ![0, 1, 2] bcast_S4x2048x1_S4x2048x2048_0_1_2 a))) (constant S_ .f32 0x00000000#32) reducesTo_S4x2048x2048_S4x2048_d2 h_S_))) a))
/-- The batch less the logarithms of its columns' sums of exponentials, shifted by `a`. -/
def colSub (L : Batch) (a : Cols) : Batch :=
  subf L (broadcastInDim S4x2048x2048 ![0, 1, 2] bcast_S4x1x2048_S4x2048x2048_0_1_2 (addf (Host.log (broadcastInDim S4x1x2048 ![0, 2] bcast_S4x2048_S4x1x2048_0_2 (Host.reduceAdd (Host.exp (subf L (broadcastInDim S4x2048x2048 ![0, 1, 2] bcast_S4x1x2048_S4x2048x2048_0_1_2 a))) (constant S_ .f32 0x00000000#32) reducesTo_S4x2048x2048_S4x2048_d1 h_S_))) a))
/-- A half pass over the rows, and one over the columns. -/
def rowStep (L : Batch) : Batch := rowSub L (rowShift (rowMax L))
/-- A half pass over the columns. -/
def colStep (L : Batch) : Batch := colSub L (colShift (colMax L))
/-- A pass. -/
def step (L : Batch) : Batch := colStep (rowStep L)
/-- The quotient by the temperature. -/
def start (t : Batch) : Batch := Host.divf t (broadcastInDim S4x2048x2048 ![] bcast_S_S4x2048x2048 (constant S_ .f32 0x3F800000#32))
/-- The whole reference. -/
def out (t : Batch) : Batch := Host.exp (step^[10] (start t))

/-! ## A half pass at an index -/

/-- A number that is kept where it is finite, and zero elsewhere, is real. -/
theorem pick_real (x : EReal) : ∃ r : ℝ, (if max x (-x) < Ideal.ofBits .f32 0x7F800000#32 then x else 0) = (r : EReal) := by
  have hinf : Ideal.ofBits .f32 0x7F800000#32 = ⊤ := by simp [Ideal.ofBits, Ideal.ieee]
  rw [hinf]
  by_cases h : max x (-x) < ⊤
  · have hx : x ≠ ⊤ := fun e => by simp [e] at h
    have hx' : x ≠ ⊥ := fun e => by simp [e] at h
    refine ⟨x.toReal, ?_⟩
    rw [EReal.coe_toReal hx hx']
    exact if_pos h
  · exact ⟨0, if_neg h⟩
/-- A row's shift is a real number. -/
theorem rowShift_real (x : Rows) (b : Fin 4) (i : Fin 2048) : ∃ r : ℝ, rowShift x (ix3 b i 0) = (r : EReal) := by
  obtain ⟨r, h⟩ := pick_real (x (ix3 b i 0))
  refine ⟨r, ?_⟩
  rw [← h]
  pointwise [rowShift, id_eq]
  rfl
/-- A column's shift is a real number. -/
theorem colShift_real (x : Cols) (b : Fin 4) (j : Fin 2048) : ∃ r : ℝ, colShift x (ix3 b 0 j) = (r : EReal) := by
  obtain ⟨r, h⟩ := pick_real (x (ix3 b 0 j))
  refine ⟨r, ?_⟩
  rw [← h]
  pointwise [colShift, id_eq]
  rfl
/-- An element less the logarithm of its row's sum of shifted exponentials, the shift put back. -/
theorem rowSub_apply (L : Batch) (a : Rows) (b : Fin 4) (i j : Fin 2048) :
    rowSub L a (ix3 b i j) = L (ix3 b i j) - (Ideal.log (∑ l : Fin 2048, Ideal.exp (L (ix3 b i l) - a (ix3 b i 0))) + a (ix3 b i 0)) := by
  pointwise [rowSub]
/-- An element less the logarithm of its column's sum of shifted exponentials, the shift put back. -/
theorem colSub_apply (L : Batch) (a : Cols) (b : Fin 4) (i j : Fin 2048) :
    colSub L a (ix3 b i j) = L (ix3 b i j) - (Ideal.log (∑ l : Fin 2048, Ideal.exp (L (ix3 b l j) - a (ix3 b 0 j))) + a (ix3 b 0 j)) := by
  pointwise [colSub]
/-- The temperature is one, so the quotient by it is the batch. -/
theorem start_apply (t : Batch) (b : Fin 4) (i j : Fin 2048) : start t (ix3 b i j) = t (ix3 b i j) := by
  pointwise [start]
  simp [Ideal.div]
/-- An element of the result is the exponential of what ten passes leave. -/
theorem out_apply (t : Batch) (b : Fin 4) (i j : Fin 2048) : out t (ix3 b i j) = Ideal.exp (step^[10] (start t) (ix3 b i j)) := by
  pointwise [out]

/-! ## The batch's exponentials -/

/-- The exponentials of the batch's matrices are `M`. -/
def Holds (M : Fin 4 → Fin 2048 → Fin 2048 → ℝ≥0∞) (L : Batch) : Prop := ∀ b i j, eexp (L (ix3 b i j)) = M b i j

/-- Subtracting the logarithm of a sum of exponentials, whatever real number it was shifted by, divides by the sum. -/
theorem half (L : Fin 2048 → EReal) (x a : EReal) (ha : ∃ r : ℝ, a = (r : EReal)) :
    eexp (x - (Ideal.log (∑ l, Ideal.exp (L l - a)) + a)) = eexp x * (∑ l, eexp (L l))⁻¹ := by
  obtain ⟨r, rfl⟩ := ha
  rw [← exp_sub_log, ← log_shift Finset.univ L r, elog, ← sum_coe]
  simp only [exp_coe]

variable {M : Fin 4 → Fin 2048 → Fin 2048 → ℝ≥0∞} {L : Batch}

/-- A half pass over the rows divides the exponentials by their rows' sums. -/
theorem holds_rowStep (h : Holds M L) : Holds (fun b => normR (M b)) (rowStep L) := fun b i j => by
  rw [rowStep, rowSub_apply, half (fun l => L (ix3 b i l)) _ _ (rowShift_real _ b i), h b i j]
  exact congrArg (fun z => M b i j * z⁻¹) (Finset.sum_congr rfl fun l _ => h b i l)
/-- A half pass over the columns divides the exponentials by their columns' sums. -/
theorem holds_colStep (h : Holds M L) : Holds (fun b => normC (M b)) (colStep L) := fun b i j => by
  rw [colStep, colSub_apply, half (fun l => L (ix3 b l j)) _ _ (colShift_real _ b j), h b i j]
  exact congrArg (fun z => M b i j * z⁻¹) (Finset.sum_congr rfl fun l _ => h b l j)
/-- The exponentials after `k` passes. -/
theorem holds_passes (t : Batch) (k : ℕ) : Holds (fun b => pass (fun i j => eexp (t (ix3 b i j))) k) (step^[k] (start t)) := by
  induction k with
  | zero => exact fun b i j => congrArg eexp (start_apply t b i j)
  | succ k ih =>
    rw [Function.iterate_succ_apply']
    exact holds_colStep (holds_rowStep ih)

/-- The reference's result: the exponentials of each matrix normalised ten times. -/
theorem out_eq (t : Batch) (b : Fin 4) (i j : Fin 2048) :
    out t (ix3 b i j) = ((pass (fun i j => eexp (t (ix3 b i j))) 10 i j : ℝ≥0∞) : EReal) := by
  rw [out_apply, exp_coe, holds_passes t 10 b i j]

/-! ## The reference's own term -/

/-- One more pass. -/
theorem one_more {s L L' : Batch} {k : ℕ} (e : L = step^[k] s) (h : L' = step L) : L' = step^[k + 1] s := by
  rw [Function.iterate_succ_apply', ← e, h]

/-- The batch after nine passes. -/
theorem nine (V : Valuation τ sig (Elt Ideal)) : res_main_v271 V = step^[9] (start (V (Proc.devRef .tc main_arg0))) :=
  one_more (L := res_main_v241 V) (one_more (L := res_main_v211 V) (one_more (L := res_main_v181 V) (one_more (L := res_main_v151 V)
    (one_more (L := res_main_v121 V) (one_more (L := res_main_v91 V) (one_more (L := res_main_v61 V) (one_more (L := res_main_v31 V)
      (one_more (L := res_main_v1 V) rfl rfl) rfl) rfl) rfl) rfl) rfl) rfl) rfl) rfl

/-- The reference runs to its end and leaves in each device's result what `out` says of its argument. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v302) = out (m ((c.tc : Thread nD τ).loc main_arg0))
      ∧ r.2.mem ((c.tc : Thread nD τ).loc main_arg0) = m ((c.tc : Thread nD τ).loc main_arg0) :=
  (θ_run defs _ _).mono (fun r h c => ⟨(h c).1.trans (by
      rw [out, Function.iterate_succ_apply']
      exact congrArg (fun L => Host.exp (step L)) (nine (launchContents m c))), (h c).2⟩) (Value.run m ρ)

end Cert.ReferenceIdeal.Sink

end
-- ==== Proof.KernelValue.lean ====
/-
  What the kernel computes of one matrix over the extended reals: its exponentials divided by row and column sums, ten
  times each. The body's four row blocks of a column sum add up to the whole sum.
-/
module

public import proofs.«01_k».proof.Proof.Values
public import proofs.«01_k».proof.Proof.Algebra
public import Idealize.ShloMosaic.Lib.Pointwise

@[expose] public section

noncomputable section

namespace Cert.KernelIdeal.Sink

open Cert.KernelIdeal Cert.KernelIdeal.Gen Cert.Sink
open Idealize.ShloMosaic
open scoped ENNReal

/-! ## The payloads at an index -/

/-- The sums that a row block adds to the columns' sums: each row divided by its sum under the scales `v`. -/
def colPart (B : S512x2048.Idx → EReal) (v : S1x2048.Idx → EReal) (j : Fin 2048) : EReal :=
  ∑ p : Fin 512, B (ix2 p j) * Ideal.div 1 (∑ l : Fin 2048, B (ix2 p l) * v (ix2 0 l))
/-- The same with every scale one, as the body computes it when it first reads the matrix. -/
def colPart1 (B : S512x2048.Idx → EReal) (j : Fin 2048) : EReal :=
  ∑ p : Fin 512, B (ix2 p j) * Ideal.div 1 (∑ l : Fin 2048, B (ix2 p l))

/-- The exponentials of a block. -/
def expB (B : S512x2048.Idx → EReal) : S512x2048.Idx → EReal := fun y => Ideal.exp (B y)

/-- The column sums start from zero. -/
theorem pay9_apply (j : Fin 2048) : k0_pay9 (F := Ideal) (ix2 0 j) = 0 := by
  pointwise [k0_pay9]
/-- The exponentials of the first block loaded. -/
theorem pay10_eq (B : S512x2048.Idx → EReal) : k0_pay10 (F := Ideal) B = expB B := by
  funext y; pointwise [k0_pay10, expB]
/-- The exponentials as they are stored. -/
theorem pay11_eq (B : S512x2048.Idx → EReal) : k0_pay11 (F := Ideal) B = expB B := by
  funext y; pointwise [k0_pay11, k0_pay10, expB]
/-- The exponentials of the last block. -/
theorem pay24_eq (B : S512x2048.Idx → EReal) : k0_pay24 (F := Ideal) B = expB B := by
  funext y; pointwise [k0_pay24, expB]
/-- A row's sum of exponentials. -/
theorem pay12_apply (B : S512x2048.Idx → EReal) (p : Fin 512) : k0_pay12 (F := Ideal) B (ix2 p 0) = ∑ l : Fin 2048, expB B (ix2 p l) := by
  pointwise [k0_pay12, k0_pay10, expB]
/-- A row's sum under the scales. -/
theorem pay5_apply (v : S1x2048.Idx → EReal) (B : S512x2048.Idx → EReal) (p : Fin 512) :
    k0_pay5 (F := Ideal) v B (ix2 p 0) = ∑ l : Fin 2048, B (ix2 p l) * v (ix2 0 l) := by
  pointwise [k0_pay5, k0_pay4]
/-- Two blocks of exponentials added to the column sums, every scale one. -/
theorem pay18_apply (a : S1x2048.Idx → EReal) (B₀ B₁ : S512x2048.Idx → EReal) (j : Fin 2048) :
    k0_pay18 (F := Ideal) a (k0_pay10 B₀) (k0_pay12 B₀) B₁ (ix2 0 j) = a (ix2 0 j) + colPart1 (expB B₀) j + colPart1 (expB B₁) j := by
  pointwise [k0_pay18, k0_pay10, k0_pay12, k0_pay14, k0_pay16, colPart1, expB]
/-- One more block of exponentials added to the column sums, every scale one. -/
theorem pay23_apply (a : S1x2048.Idx → EReal) (B : S512x2048.Idx → EReal) (j : Fin 2048) :
    k0_pay23 (F := Ideal) a B (ix2 0 j) = a (ix2 0 j) + colPart1 (expB B) j := by
  pointwise [k0_pay23, k0_pay19, k0_pay21, colPart1, expB]
/-- The reciprocals of the column sums once the last block is added, every scale one. -/
theorem pay28_apply (a : S1x2048.Idx → EReal) (B : S512x2048.Idx → EReal) (j : Fin 2048) :
    k0_pay28 (F := Ideal) a B (ix2 0 j) = Ideal.div 1 (a (ix2 0 j) + colPart1 B j) := by
  pointwise [k0_pay28, k0_pay26, colPart1]
/-- Two blocks added to the column sums under the scales. -/
theorem pay8_apply (a v : S1x2048.Idx → EReal) (B₀ B₁ : S512x2048.Idx → EReal) (j : Fin 2048) :
    k0_pay8 (F := Ideal) a v B₀ B₁ (ix2 0 j) = a (ix2 0 j) + colPart B₀ v j + colPart B₁ v j := by
  pointwise [k0_pay8, k0_pay4, k0_pay6, colPart]
/-- The reciprocals of the column sums once the last two blocks are added, under the scales. -/
theorem pay33_apply (a v : S1x2048.Idx → EReal) (B₀ B₁ : S512x2048.Idx → EReal) (j : Fin 2048) :
    k0_pay33 (F := Ideal) v a B₀ B₁ (ix2 0 j) = Ideal.div 1 (a (ix2 0 j) + colPart B₀ v j + colPart B₁ v j) := by
  pointwise [k0_pay33, k0_pay29, k0_pay31, colPart]
/-- An element of the result: the exponential times its row's reciprocal sum times its column's scale. -/
theorem pay36_apply (v : S1x2048.Idx → EReal) (s : S512x1.Idx → EReal) (B : S512x2048.Idx → EReal) (p : Fin 512) (j : Fin 2048) :
    k0_pay36 (F := Ideal) v s B (ix2 p j) = B (ix2 p j) * Ideal.div 1 (s (ix2 p 0)) * v (ix2 0 j) := by
  pointwise [k0_pay36]

/-! ## From blocks to the matrix -/

/-- Row `p` of block `r` as a row of the matrix. -/
def rowOf (r : Fin 4) (p : Fin 512) : Fin 2048 := ⟨r.val * 512 + p.val, by have := r.isLt; have := p.isLt; omega⟩

/-- A sum over the rows is the sum over the blocks of the sums over their rows. -/
theorem sum_rows {α : Type} [AddCommMonoid α] (f : Fin 2048 → α) : ∑ i, f i = ∑ r : Fin 4, ∑ p : Fin 512, f (rowOf r p) :=
  Fin.sum_univ_tiles 4 512 rfl f

/-- An element of a row block of a matrix is the element at its row of the matrix. -/
theorem blk_apply {α : Type} (r : Fin 4) (X : S2048x2048.Idx → α) (p : Fin 512) (j : Fin 2048) : blk r X (ix2 p j) = X (ix2 (rowOf r p) j) := by
  refine congrArg X (funext fun a => Fin.ext ?_)
  match a with
  | ⟨0, _⟩ => exact (emb0 r (ix2 p j)).trans (by show 512 * r.val + p.val = r.val * 512 + p.val; omega)
  | ⟨1, _⟩ => exact emb1 r (ix2 p j)
/-- The same for a column. -/
theorem blkC_apply {α : Type} (r : Fin 4) (X : S2048x1.Idx → α) (p : Fin 512) : blkC r X (ix2 p 0) = X (ix2 (rowOf r p) 0) := by
  refine congrArg X (funext fun a => Fin.ext ?_)
  match a with
  | ⟨0, _⟩ => exact (embC0 r (ix2 p 0)).trans (by show 512 * r.val + p.val = r.val * 512 + p.val; omega)
  | ⟨1, _⟩ => exact embC1 r (ix2 p 0)
/-- Every row is a row of a block. -/
theorem exists_rowOf (i : Fin 2048) : ∃ r p, i = rowOf r p :=
  ⟨⟨i.val / 512, by have := i.isLt; omega⟩, ⟨i.val % 512, Nat.mod_lt _ (by decide)⟩, Fin.ext (by show i.val = i.val / 512 * 512 + i.val % 512; omega)⟩
/-- An element of a matrix of four row blocks. -/
theorem glue_apply {α : Type} (q : Fin 4 → S512x2048.Idx → α) (r : Fin 4) (p : Fin 512) (j : Fin 2048) : glue q (ix2 (rowOf r p) j) = q r (ix2 p j) := by
  rw [← blk_apply r (glue q), blk_glue]
/-- An element of a column of four row blocks. -/
theorem glueC_apply {α : Type} (q : Fin 4 → S512x1.Idx → α) (r : Fin 4) (p : Fin 512) : glueC q (ix2 (rowOf r p) 0) = q r (ix2 p 0) := by
  rw [← blkC_apply r (glueC q), blkC_glueC]

/-! ## The values over extended non-negative reals -/

variable (X : S2048x2048.Idx → EReal)

/-- The exponentials of a matrix. -/
def ker (i j : Fin 2048) : ℝ≥0∞ := eexp (X (ix2 i j))

/-- The matrix, and the row, of extended non-negative reals that an array of extended reals holds. -/
def HoldsM (K : Fin 2048 → Fin 2048 → ℝ≥0∞) (A : S2048x2048.Idx → EReal) : Prop := ∀ i j, A (ix2 i j) = (K i j : EReal)
/-- The same for a row of scales. -/
def HoldsR (v : Fin 2048 → ℝ≥0∞) (w : S1x2048.Idx → EReal) : Prop := ∀ j, w (ix2 0 j) = (v j : EReal)

/-- The exponentials as the body stores them. -/
theorem holds_expK : HoldsM (ker X) (expK (F := Ideal) X) := fun i j => by
  obtain ⟨r, p, rfl⟩ := exists_rowOf i
  rw [expK, glue_apply, pay11_eq, expB, blk_apply, exp_coe, ker]

variable {K : Fin 2048 → Fin 2048 → ℝ≥0∞} {A : S2048x2048.Idx → EReal} {v : Fin 2048 → ℝ≥0∞} {w : S1x2048.Idx → EReal}

/-- A row's sum under the scales. -/
theorem row_sum (hA : HoldsM K A) (hw : HoldsR v w) (r : Fin 4) (p : Fin 512) :
    ∑ l : Fin 2048, blk r A (ix2 p l) * w (ix2 0 l) = ((rsum K v (rowOf r p) : ℝ≥0∞) : EReal) := by
  rw [rsum, ← sum_coe]
  refine Finset.sum_congr rfl fun l _ => ?_
  rw [blk_apply, hA, hw, EReal.coe_ennreal_mul]
/-- What a block adds to a column's sum. -/
theorem part_coe (hA : HoldsM K A) (hw : HoldsR v w) (r : Fin 4) (j : Fin 2048) :
    colPart (blk r A) w j = ((∑ p, rdiv K v (rowOf r p) j : ℝ≥0∞) : EReal) := by
  rw [colPart, ← sum_coe]
  refine Finset.sum_congr rfl fun p _ => ?_
  rw [row_sum hA hw, inv_coe, blk_apply, hA, rdiv, EReal.coe_ennreal_mul]
/-- The same where every scale is one, of the exponentials of a block. -/
theorem part1_coe (r : Fin 4) (j : Fin 2048) : colPart1 (expB (blk r X)) j = ((∑ p, rdiv (ker X) 1 (rowOf r p) j : ℝ≥0∞) : EReal) := by
  rw [colPart1, ← sum_coe]
  refine Finset.sum_congr rfl fun p _ => ?_
  have h : ∑ l : Fin 2048, expB (blk r X) (ix2 p l) = ((rsum (ker X) 1 (rowOf r p) : ℝ≥0∞) : EReal) := by
    rw [rsum, ← sum_coe]
    refine Finset.sum_congr rfl fun l _ => ?_
    rw [expB, blk_apply, exp_coe, Pi.one_apply, mul_one, ker]
  rw [h, inv_coe, expB, blk_apply, exp_coe, rdiv, ker, EReal.coe_ennreal_mul]

/-- The four blocks' parts, added up from zero and inverted, are the next scales. -/
theorem next_coe (K : Fin 2048 → Fin 2048 → ℝ≥0∞) (v : Fin 2048 → ℝ≥0∞) (j : Fin 2048) (c : Fin 4 → EReal)
    (hc : ∀ r, c r = ((∑ p, rdiv K v (rowOf r p) j : ℝ≥0∞) : EReal)) :
    Ideal.div 1 (0 + c 0 + c 1 + c 2 + c 3) = ((next K v j : ℝ≥0∞) : EReal) := by
  rw [next, ← inv_coe, sum_rows, ← sum_coe, Fin.sum_univ_four, zero_add, hc, hc, hc, hc]

/-- The first scales. -/
theorem holds_v0 : HoldsR (row (ker X) 1) (v0 (F := Ideal) X) := fun j => by
  rw [v0, pay28_apply, pay23_apply, pay18_apply, pay9_apply, pay24_eq]
  exact next_coe (ker X) 1 j (fun r => colPart1 (expB (blk r X)) j) fun r => part1_coe X r j
/-- One step of the scales. -/
theorem holds_vstep (hA : HoldsM K A) (hw : HoldsR v w) : HoldsR (next K v) (vstep (F := Ideal) A w) := fun j => by
  rw [vstep, pay33_apply, pay8_apply, pay9_apply]
  exact next_coe K v j (fun r => colPart (blk r A) w j) fun r => part_coe hA hw r j
/-- The scales after `k` steps. -/
theorem holds_vN (k : ℕ) : HoldsR (row (ker X) (k + 1)) (vN (F := Ideal) (expK X) (v0 X) k) := by
  induction k with
  | zero => exact holds_v0 X
  | succ k ih => exact holds_vstep (holds_expK X) ih

/-- The kernel's result of one matrix: its exponentials normalised ten times. -/
theorem final_apply (i j : Fin 2048) : final (F := Ideal) X (ix2 i j) = ((pass (ker X) 10 i j : ℝ≥0∞) : EReal) := by
  obtain ⟨r, p, rfl⟩ := exists_rowOf i
  rw [final, scaleK, glue_apply, pay36_apply, blkC_apply, rowS, glueC_apply, pay5_apply, row_sum (holds_expK X) (holds_vN X 8), inv_coe,
    blk_apply, holds_expK, holds_vN X 9, pass_eq 9]
  simp only [rdiv, EReal.coe_ennreal_mul, EReal.coe_ennreal_mul]

end Cert.KernelIdeal.Sink

end
-- ==== Proof.Equal.lean ====
/-
  The kernel's result and the reference's are one array.
-/
module

public import proofs.«01_k».proof.Proof.Launch
public import proofs.«01_k».proof.Proof.KernelValue
public import proofs.«01_k».proof.Proof.RefValue

@[expose] public section

noncomputable section

namespace Cert.KernelIdeal.Sink

open Cert.KernelIdeal Cert.Sink
open Idealize.ShloMosaic

/-- Matrix `b` of a batch at a place. -/
theorem mat_apply (b : Fin 4) (f : S4x2048x2048.Idx → EReal) (i j : Fin 2048) : mat (F := Ideal) b f (ix2 i j) = f (ix3 b i j) :=
  congrArg f (funext fun a => by
    match a with
    | ⟨0, _⟩ => rfl
    | ⟨1, _⟩ => rfl
    | ⟨2, _⟩ => rfl)
/-- The place in its matrix of an element of the batch. -/
theorem inMat_ix3 (b : Fin 4) (i j : Fin 2048) : inMat (ix3 b i j) = ix2 i j :=
  funext fun a => by
    match a with
    | ⟨0, _⟩ => rfl
    | ⟨1, _⟩ => rfl

/-- The kernel's result at an element: the exponentials of its matrix normalised ten times. -/
theorem outv_apply (f : S4x2048x2048.Idx → EReal) (b : Fin 4) (i j : Fin 2048) :
    outv (F := Ideal) f (ix3 b i j) = ((pass (fun i j => eexp (f (ix3 b i j))) 10 i j : ENNReal) : EReal) := by
  have h : outv (F := Ideal) f (ix3 b i j) = final (mat (F := Ideal) b f) (inMat (ix3 b i j)) := rfl
  rw [h, inMat_ix3, final_apply]
  have e : ker (mat (F := Ideal) b f) = fun i j => eexp (f (ix3 b i j)) := by
    funext i j
    rw [ker, mat_apply]
  rw [e]

/-- The kernel's result of a batch is the reference's. -/
theorem outv_eq (f : S4x2048x2048.Idx → EReal) : outv (F := Ideal) f = Cert.ReferenceIdeal.Sink.out f := by
  funext y
  obtain ⟨b, i, j, rfl⟩ : ∃ (b : Fin 4) (i j : Fin 2048), y = ix3 b i j := ⟨y 0, y 1, y 2, eq_ix3 y⟩
  rw [outv_apply]
  exact (Cert.ReferenceIdeal.Sink.out_eq f b i j).symm

end Cert.KernelIdeal.Sink

end
-- ==== Proof.lean ====
/-
  The claims, each from its module: what each of the programs does when it runs, and that the kernel and the reference
  leave the same result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Twin
public import proofs.«01_k».proof.Proof.RefValue
public import proofs.«01_k».proof.Proof.Equal
public import Idealize.ShloMosaic.Adequacy
public import Idealize.ShloMosaic.Init

@[expose] public section

noncomputable section

namespace Cert.Proof

open Idealize.ShloMosaic Idealize.SL.Sem

/-- The reference's frame: it ends, its argument as it was, every counter at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run m g)

/-- Every claim. -/
theorem claim : Cert.Claim :=
  ⟨Cert.Kernel.Gen.facts, Cert.KernelIdeal.Gen.facts, Cert.ReferenceIdeal.Gen.facts,
    fun m g _ => Cert.Kernel.Sink.frame_run m g, fun m g _ => Cert.KernelIdeal.Sink.frame_run m g,
    fun m g _ => reference_frame m g, trivial,
    fun m g m' g' _ h => ⟨fun c => Cert.ReferenceIdeal.Sink.out (m ((c.tc : Thread Cert.KernelIdeal.nD Cert.KernelIdeal.τ).loc Cert.KernelIdeal.main_arg0)),
      (θ_run Cert.KernelIdeal.defs _ _).mono (fun r hr c => ⟨(hr.1 c).2.trans (Cert.KernelIdeal.Sink.outv_eq _), (hr.1 c).1⟩) (Cert.KernelIdeal.Sink.run_values m g),
      (θ_run Cert.ReferenceIdeal.defs _ _).mono (fun r hr c => ⟨(hr c).1.trans (congrArg Cert.ReferenceIdeal.Sink.out (h c)), (hr c).2⟩) (Cert.ReferenceIdeal.Sink.run_out m' g')⟩⟩

end Cert.Proof

end
